-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "big" .f32 0x7F61B1E6#32 ⊤

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8x256x56x56 : Shape := ⟨4, ![8, 256, 56, 56]⟩
abbrev S8x512x28x28 : Shape := ⟨4, ![8, 512, 28, 28]⟩
abbrev S8x1024x14x14 : Shape := ⟨4, ![8, 1024, 14, 14]⟩
abbrev S224x1794 : Shape := ⟨2, ![224, 1794]⟩
abbrev S224 : Shape := ⟨1, ![224]⟩
abbrev S224x3136 : Shape := ⟨2, ![224, 3136]⟩
abbrev S_ : Shape := ⟨0, ![]⟩

class Facts : Prop where
  bcast_S_S8x256x56x56 : S_.BroadcastsInDim S8x256x56x56 (![] : Fin 0 → Fin S8x256x56x56.rank)
  bcast_S_S8x512x28x28 : S_.BroadcastsInDim S8x512x28x28 (![] : Fin 0 → Fin S8x512x28x28.rank)
  bcast_S_S8x1024x14x14 : S_.BroadcastsInDim S8x1024x14x14 (![] : Fin 0 → Fin S8x1024x14x14.rank)
  bcast_S_S224x1794 : S_.BroadcastsInDim S224x1794 (![] : Fin 0 → Fin S224x1794.rank)
  bcast_S_S224 : S_.BroadcastsInDim S224 (![] : Fin 0 → Fin S224.rank)
  bcast_S_S224x3136 : S_.BroadcastsInDim S224x3136 (![] : Fin 0 → Fin S224x3136.rank)

variable [Facts]

def fn {F : FTy → Type} [FloatOps F] (main_arg0 : FVec F S8x256x56x56 .f32) (main_arg1 : FVec F S8x512x28x28 .f32) (main_arg2 : FVec F S8x1024x14x14 .f32) (main_arg3 : FVec F S224x1794 .f32) (main_arg4 : FVec F S224 .f32) (main_arg5 : FVec F S224x3136 .f32) : IVec S8x256x56x56 1 × IVec S8x512x28x28 1 × IVec S8x1024x14x14 1 × IVec S224x1794 1 × IVec S224 1 × IVec S224x3136 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_v3 : FVec F S8x512x28x28 .f32 := Host.absf main_arg1
  let main_cst_0 : FVec F S_ .f32 := constant S_ .f32 0x7F800000#32
  let main_v4 : FVec F S8x512x28x28 .f32 := broadcastInDim S8x512x28x28 ![] bcast_S_S8x512x28x28 main_cst_0
  let main_v5 : IVec S8x512x28x28 1 := cmpf .olt main_v3 main_v4
  let main_v6 : FVec F S8x1024x14x14 .f32 := Host.absf main_arg2
  let main_cst_1 : FVec F S_ .f32 := constant S_ .f32 0x7F800000#32
  let main_v7 : FVec F S8x1024x14x14 .f32 := broadcastInDim S8x1024x14x14 ![] bcast_S_S8x1024x14x14 main_cst_1
  let main_v8 : IVec S8x1024x14x14 1 := cmpf .olt main_v6 main_v7
  let main_v9 : FVec F S224x1794 .f32 := Host.absf main_arg3
  let main_cst_2 : FVec F S_ .f32 := constant S_ .f32 0x7F800000#32
  let main_v10 : FVec F S224x1794 .f32 := broadcastInDim S224x1794 ![] bcast_S_S224x1794 main_cst_2
  let main_v11 : IVec S224x1794 1 := cmpf .olt main_v9 main_v10
  let main_v12 : FVec F S224 .f32 := Host.absf main_arg4
  let main_cst_3 : FVec F S_ .f32 := constant S_ .f32 0x7F800000#32
  let main_v13 : FVec F S224 .f32 := broadcastInDim S224 ![] bcast_S_S224 main_cst_3
  let main_v14 : IVec S224 1 := cmpf .olt main_v12 main_v13
  let main_v15 : FVec F S224x3136 .f32 := Host.absf main_arg5
  let main_cst_4 : FVec F S_ .f32 := constant S_ .f32 0x7F800000#32
  let main_v16 : FVec F S224x3136 .f32 := broadcastInDim S224x3136 ![] bcast_S_S224x3136 main_cst_4
  let main_v17 : IVec S224x3136 1 := cmpf .olt main_v15 main_v16
  (main_v2, main_v5, main_v8, main_v11, main_v14, main_v17)
-- ==== Kernel.lean ====
abbrev S8x256x56x56 : Shape := ⟨4, ![8, 256, 56, 56]⟩
abbrev S8x512x28x28 : Shape := ⟨4, ![8, 512, 28, 28]⟩
abbrev S8x1024x14x14 : Shape := ⟨4, ![8, 1024, 14, 14]⟩
abbrev S224x1794 : Shape := ⟨2, ![224, 1794]⟩
abbrev S224 : Shape := ⟨1, ![224]⟩
abbrev S224x3136 : Shape := ⟨2, ![224, 3136]⟩
abbrev S8x256x3136 : Shape := ⟨3, ![8, 256, 3136]⟩
abbrev S8x512x784 : Shape := ⟨3, ![8, 512, 784]⟩
abbrev S8x1024x196 : Shape := ⟨3, ![8, 1024, 196]⟩
abbrev S224x1 : Shape := ⟨2, ![224, 1]⟩
abbrev S56 : Shape := ⟨1, ![56]⟩
abbrev S_ : Shape := ⟨0, ![]⟩
abbrev S56x1 : Shape := ⟨2, ![56, 1]⟩
abbrev S28 : Shape := ⟨1, ![28]⟩
abbrev S1x28 : Shape := ⟨2, ![1, 28]⟩
abbrev S56x28 : Shape := ⟨2, ![56, 28]⟩
abbrev S56x28x1 : Shape := ⟨3, ![56, 28, 1]⟩
abbrev S28x1 : Shape := ⟨2, ![28, 1]⟩
abbrev S28x28 : Shape := ⟨2, ![28, 28]⟩
abbrev S1x28x28 : Shape := ⟨3, ![1, 28, 28]⟩
abbrev S56x28x28 : Shape := ⟨3, ![56, 28, 28]⟩
abbrev S14 : Shape := ⟨1, ![14]⟩
abbrev S1x14 : Shape := ⟨2, ![1, 14]⟩
abbrev S56x14 : Shape := ⟨2, ![56, 14]⟩
abbrev S56x14x1 : Shape := ⟨3, ![56, 14, 1]⟩
abbrev S14x1 : Shape := ⟨2, ![14, 1]⟩
abbrev S14x14 : Shape := ⟨2, ![14, 14]⟩
abbrev S1x14x14 : Shape := ⟨3, ![1, 14, 14]⟩
abbrev S56x14x14 : Shape := ⟨3, ![56, 14, 14]⟩
abbrev S56x1x28x1 : Shape := ⟨4, ![56, 1, 28, 1]⟩
abbrev S1x56x1x28 : Shape := ⟨4, ![1, 56, 1, 28]⟩
abbrev S56x56x28x28 : Shape := ⟨4, ![56, 56, 28, 28]⟩
abbrev S3136x784 : Shape := ⟨2, ![3136, 784]⟩
abbrev S784x3136 : Shape := ⟨2, ![784, 3136]⟩
abbrev S56x1x14x1 : Shape := ⟨4, ![56, 1, 14, 1]⟩
abbrev S1x56x1x14 : Shape := ⟨4, ![1, 56, 1, 14]⟩
abbrev S56x56x14x14 : Shape := ⟨4, ![56, 56, 14, 14]⟩
abbrev S3136x196 : Shape := ⟨2, ![3136, 196]⟩
abbrev S196x3136 : Shape := ⟨2, ![196, 3136]⟩
abbrev S3136 : Shape := ⟨1, ![3136]⟩
abbrev S1x3136 : Shape := ⟨2, ![1, 3136]⟩
abbrev S983x3136 : Shape := ⟨2, ![983, 3136]⟩
abbrev S3136x224 : Shape := ⟨2, ![3136, 224]⟩
abbrev S8x1x3136 : Shape := ⟨3, ![8, 1, 3136]⟩
abbrev S1x256x3136 : Shape := ⟨3, ![1, 256, 3136]⟩
abbrev S1x512x784 : Shape := ⟨3, ![1, 512, 784]⟩
abbrev S1x1024x196 : Shape := ⟨3, ![1, 1024, 196]⟩
abbrev S1x1x3136 : Shape := ⟨3, ![1, 1, 3136]⟩
abbrev S224x256 : Shape := ⟨2, ![224, 256]⟩
abbrev S256x3136 : Shape := ⟨2, ![256, 3136]⟩
abbrev S224x3135 : Shape := ⟨2, ![224, 3135]⟩
abbrev S224x56 : Shape := ⟨2, ![224, 56]⟩
abbrev S224x3080 : Shape := ⟨2, ![224, 3080]⟩
abbrev S224x512 : Shape := ⟨2, ![224, 512]⟩
abbrev S512x784 : Shape := ⟨2, ![512, 784]⟩
abbrev S224x784 : Shape := ⟨2, ![224, 784]⟩
abbrev S224x1024 : Shape := ⟨2, ![224, 1024]⟩
abbrev S1024x196 : Shape := ⟨2, ![1024, 196]⟩
abbrev S224x196 : Shape := ⟨2, ![224, 196]⟩
abbrev S224x983 : Shape := ⟨2, ![224, 983]⟩
abbrev S3136x1 : Shape := ⟨2, ![3136, 1]⟩
abbrev S32x3136 : Shape := ⟨2, ![32, 3136]⟩
abbrev S512x3136 : Shape := ⟨2, ![512, 3136]⟩
abbrev S512x1 : Shape := ⟨2, ![512, 1]⟩
abbrev S224x64 : Shape := ⟨2, ![224, 64]⟩
abbrev S64x3136 : Shape := ⟨2, ![64, 3136]⟩
abbrev S64x1 : Shape := ⟨2, ![64, 1]⟩
abbrev S96x3136 : Shape := ⟨2, ![96, 3136]⟩

abbrev nBuf : Space → Nat
  | .hbm => 197
  | .vmem => 13
  | .smem => 0
  | _ => 0

abbrev hbmTy0_0 (i : Nat) : BufTy := match i % 128 with
  | 0 => ⟨S8x256x56x56, .f32⟩
  | 1 => ⟨S8x512x28x28, .f32⟩
  | 2 => ⟨S8x1024x14x14, .f32⟩
  | 3 => ⟨S224x1794, .f32⟩
  | 4 => ⟨S224, .f32⟩
  | 5 => ⟨S224x3136, .f32⟩
  | 6 => ⟨S8x256x3136, .f32⟩
  | 7 => ⟨S8x512x784, .f32⟩
  | 8 => ⟨S8x1024x196, .f32⟩
  | 9 => ⟨S224x1, .f32⟩
  | 10 => ⟨S56, .i32⟩
  | 11 => ⟨S56, .f32⟩
  | 12 => ⟨S_, .f32⟩
  | 13 => ⟨S56, .f32⟩
  | 14 => ⟨S56, .f32⟩
  | 15 => ⟨S_, .f32⟩
  | 16 => ⟨S56, .f32⟩
  | 17 => ⟨S56, .f32⟩
  | 18 => ⟨S_, .f32⟩
  | 19 => ⟨S56, .f32⟩
  | 20 => ⟨S56, .f32⟩
  | 21 => ⟨S56x1, .f32⟩
  | 22 => ⟨S28, .i32⟩
  | 23 => ⟨S28, .f32⟩
  | 24 => ⟨S1x28, .f32⟩
  | 25 => ⟨S56x28, .f32⟩
  | 26 => ⟨S56x28, .f32⟩
  | 27 => ⟨S56x28, .f32⟩
  | 28 => ⟨S56x28, .f32⟩
  | 29 => ⟨S_, .f32⟩
  | 30 => ⟨S56x28, .f32⟩
  | 31 => ⟨S56x28, .f32⟩
  | 32 => ⟨S_, .f32⟩
  | 33 => ⟨S56x28, .f32⟩
  | 34 => ⟨S56x28, .f32⟩
  | 35 => ⟨S_, .f32⟩
  | 36 => ⟨S56, .f32⟩
  | 37 => ⟨S56x1, .f32⟩
  | 38 => ⟨S56x28, .f32⟩
  | 39 => ⟨S56x28, .f32⟩
  | 40 => ⟨S56x28x1, .f32⟩
  | 41 => ⟨S28, .i32⟩
  | 42 => ⟨S28x1, .i32⟩
  | 43 => ⟨S1x28, .i32⟩
  | 44 => ⟨S28x28, .i32⟩
  | 45 => ⟨S28x28, .i32⟩
  | 46 => ⟨S28x28, .i32⟩
  | 47 => ⟨S28x28, .i32⟩
  | 48 => ⟨S_, .i32⟩
  | 49 => ⟨S28x28, .i32⟩
  | 50 => ⟨S28x28, .i1⟩
  | 51 => ⟨S28x28, .f32⟩
  | 52 => ⟨S_, .f32⟩
  | 53 => ⟨S28x28, .f32⟩
  | 54 => ⟨S28x28, .f32⟩
  | 55 => ⟨S1x28x28, .f32⟩
  | 56 => ⟨S56x28x28, .f32⟩
  | 57 => ⟨S56x28x28, .f32⟩
  | 58 => ⟨S56x28x28, .f32⟩
  | 59 => ⟨S_, .f32⟩
  | 60 => ⟨S56x28, .f32⟩
  | 61 => ⟨S56, .i32⟩
  | 62 => ⟨S56, .f32⟩
  | 63 => ⟨S_, .f32⟩
  | 64 => ⟨S56, .f32⟩
  | 65 => ⟨S56, .f32⟩
  | 66 => ⟨S_, .f32⟩
  | 67 => ⟨S56, .f32⟩
  | 68 => ⟨S56, .f32⟩
  | 69 => ⟨S_, .f32⟩
  | 70 => ⟨S56, .f32⟩
  | 71 => ⟨S56, .f32⟩
  | 72 => ⟨S56x1, .f32⟩
  | 73 => ⟨S14, .i32⟩
  | 74 => ⟨S14, .f32⟩
  | 75 => ⟨S1x14, .f32⟩
  | 76 => ⟨S56x14, .f32⟩
  | 77 => ⟨S56x14, .f32⟩
  | 78 => ⟨S56x14, .f32⟩
  | 79 => ⟨S56x14, .f32⟩
  | 80 => ⟨S_, .f32⟩
  | 81 => ⟨S56x14, .f32⟩
  | 82 => ⟨S56x14, .f32⟩
  | 83 => ⟨S_, .f32⟩
  | 84 => ⟨S56x14, .f32⟩
  | 85 => ⟨S56x14, .f32⟩
  | 86 => ⟨S_, .f32⟩
  | 87 => ⟨S56, .f32⟩
  | 88 => ⟨S56x1, .f32⟩
  | 89 => ⟨S56x14, .f32⟩
  | 90 => ⟨S56x14, .f32⟩
  | 91 => ⟨S56x14x1, .f32⟩
  | 92 => ⟨S14, .i32⟩
  | 93 => ⟨S14x1, .i32⟩
  | 94 => ⟨S1x14, .i32⟩
  | 95 => ⟨S14x14, .i32⟩
  | 96 => ⟨S14x14, .i32⟩
  | 97 => ⟨S14x14, .i32⟩
  | 98 => ⟨S14x14, .i32⟩
  | 99 => ⟨S_, .i32⟩
  | 100 => ⟨S14x14, .i32⟩
  | 101 => ⟨S14x14, .i1⟩
  | 102 => ⟨S14x14, .f32⟩
  | 103 => ⟨S_, .f32⟩
  | 104 => ⟨S14x14, .f32⟩
  | 105 => ⟨S14x14, .f32⟩
  | 106 => ⟨S1x14x14, .f32⟩
  | 107 => ⟨S56x14x14, .f32⟩
  | 108 => ⟨S56x14x14, .f32⟩
  | 109 => ⟨S56x14x14, .f32⟩
  | 110 => ⟨S_, .f32⟩
  | 111 => ⟨S56x14, .f32⟩
  | 112 => ⟨S56x1x28x1, .f32⟩
  | 113 => ⟨S1x56x1x28, .f32⟩
  | 114 => ⟨S56x56x28x28, .f32⟩
  | 115 => ⟨S56x56x28x28, .f32⟩
  | 116 => ⟨S56x56x28x28, .f32⟩
  | 117 => ⟨S3136x784, .f32⟩
  | 118 => ⟨S784x3136, .f32⟩
  | 119 => ⟨S56x1x14x1, .f32⟩
  | 120 => ⟨S1x56x1x14, .f32⟩
  | 121 => ⟨S56x56x14x14, .f32⟩
  | 122 => ⟨S56x56x14x14, .f32⟩
  | 123 => ⟨S56x56x14x14, .f32⟩
  | 124 => ⟨S3136x196, .f32⟩
  | 125 => ⟨S196x3136, .f32⟩
  | 126 => ⟨S3136, .i32⟩
  | 127 => ⟨S_, .i32⟩
  | _ => ⟨S8x256x56x56, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S3136, .i32⟩
  | 6 => ⟨S3136, .i32⟩
  | 7 => ⟨S_, .i32⟩
  | 8 => ⟨S3136, .i32⟩
  | 9 => ⟨S3136, .i1⟩
  | 10 => ⟨S_, .i32⟩
  | 11 => ⟨S3136, .i32⟩
  | 12 => ⟨S3136, .i1⟩
  | 13 => ⟨S_, .i32⟩
  | 14 => ⟨S_, .i1⟩
  | 15 => ⟨S3136, .i1⟩
  | 16 => ⟨S3136, .i1⟩
  | 17 => ⟨S3136, .i1⟩
  | 18 => ⟨S3136, .i32⟩
  | 19 => ⟨S3136, .i32⟩
  | 20 => ⟨S3136, .i32⟩
  | 21 => ⟨S3136, .f32⟩
  | 22 => ⟨S_, .f32⟩
  | 23 => ⟨S3136, .f32⟩
  | 24 => ⟨S3136, .f32⟩
  | 25 => ⟨S_, .f32⟩
  | 26 => ⟨S3136, .f32⟩
  | 27 => ⟨S3136, .f32⟩
  | 28 => ⟨S_, .f32⟩
  | 29 => ⟨S3136, .f32⟩
  | 30 => ⟨S3136, .f32⟩
  | 31 => ⟨S1x3136, .f32⟩
  | 32 => ⟨S_, .i32⟩
  | 33 => ⟨S_, .i32⟩
  | 34 => ⟨S3136, .i32⟩
  | 35 => ⟨S3136, .i32⟩
  | 36 => ⟨S3136, .i32⟩
  | 37 => ⟨S_, .i32⟩
  | 38 => ⟨S3136, .i32⟩
  | 39 => ⟨S3136, .i1⟩
  | 40 => ⟨S3136, .i32⟩
  | 41 => ⟨S3136, .i32⟩
  | 42 => ⟨S_, .i32⟩
  | 43 => ⟨S3136, .i32⟩
  | 44 => ⟨S3136, .i1⟩
  | 45 => ⟨S3136, .i1⟩
  | 46 => ⟨S_, .i32⟩
  | 47 => ⟨S3136, .i32⟩
  | 48 => ⟨S3136, .i32⟩
  | 49 => ⟨S3136, .i32⟩
  | 50 => ⟨S3136, .f32⟩
  | 51 => ⟨S_, .f32⟩
  | 52 => ⟨S3136, .f32⟩
  | 53 => ⟨S3136, .f32⟩
  | 54 => ⟨S_, .f32⟩
  | 55 => ⟨S3136, .f32⟩
  | 56 => ⟨S3136, .f32⟩
  | 57 => ⟨S_, .f32⟩
  | 58 => ⟨S3136, .f32⟩
  | 59 => ⟨S3136, .f32⟩
  | 60 => ⟨S1x3136, .f32⟩
  | 61 => ⟨S_, .f32⟩
  | 62 => ⟨S1x3136, .f32⟩
  | 63 => ⟨S983x3136, .f32⟩
  | 64 => ⟨S_, .f32⟩
  | 65 => ⟨S983x3136, .f32⟩
  | 66 => ⟨S983x3136, .f32⟩
  | 67 => ⟨S3136x224, .f32⟩
  | 68 => ⟨S8x1x3136, .f32⟩
  | _ => ⟨S8x256x56x56, .f32⟩

abbrev hbmTy (i : Nat) : BufTy := match i / 128 with
  | 0 => hbmTy0_0 i
  | 1 => hbmTy0_1 i
  | _ => ⟨S8x256x56x56, .f32⟩

abbrev bufTy : (tb : Table) → Fin (tcTables nBuf tb) → BufTy
  | .hbm, ⟨i, _⟩ => hbmTy i
  | .local _ .vmem, ⟨0, _⟩ => ⟨S1x256x3136, .f32⟩
  | .local _ .vmem, ⟨1, _⟩ => ⟨S1x256x3136, .f32⟩
  | .local _ .vmem, ⟨2, _⟩ => ⟨S1x512x784, .f32⟩
  | .local _ .vmem, ⟨3, _⟩ => ⟨S1x512x784, .f32⟩
  | .local _ .vmem, ⟨4, _⟩ => ⟨S1x1024x196, .f32⟩
  | .local _ .vmem, ⟨5, _⟩ => ⟨S1x1024x196, .f32⟩
  | .local _ .vmem, ⟨6, _⟩ => ⟨S224x1794, .f32⟩
  | .local _ .vmem, ⟨7, _⟩ => ⟨S224x1, .f32⟩
  | .local _ .vmem, ⟨8, _⟩ => ⟨S983x3136, .f32⟩
  | .local _ .vmem, ⟨9, _⟩ => ⟨S224x3136, .f32⟩
  | .local _ .vmem, ⟨10, _⟩ => ⟨S3136x224, .f32⟩
  | .local _ .vmem, ⟨11, _⟩ => ⟨S1x1x3136, .f32⟩
  | .local _ .vmem, ⟨12, _⟩ => ⟨S1x1x3136, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_13 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v88 : Ref sig .tc := ⟨.hbm, 117, rfl⟩
abbrev main_v89 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_16 : Ref sig .tc := ⟨.hbm, 127, rfl⟩
abbrev main_call2_v0 : Ref sig .tc := ⟨.hbm, 128, rfl⟩
abbrev main_call2_c : Ref sig .tc := ⟨.hbm, 129, rfl⟩
abbrev main_call2_v1 : Ref sig .tc := ⟨.hbm, 130, rfl⟩
abbrev main_call2_c_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_c_1 : Ref sig .tc := ⟨.hbm, 135, rfl⟩
abbrev main_call2_v5 : Ref sig .tc := ⟨.hbm, 136, rfl⟩
abbrev main_call2_v6 : Ref sig .tc := ⟨.hbm, 137, rfl⟩
abbrev main_call2_c_2 : Ref sig .tc := ⟨.hbm, 138, rfl⟩
abbrev main_call2_v7 : Ref sig .tc := ⟨.hbm, 139, rfl⟩
abbrev main_call2_v8 : Ref sig .tc := ⟨.hbm, 140, rfl⟩
abbrev main_call2_c_3 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_v12 : Ref sig .tc := ⟨.hbm, 145, rfl⟩
abbrev main_call2_v13 : Ref sig .tc := ⟨.hbm, 146, rfl⟩
abbrev main_call2_v14 : Ref sig .tc := ⟨.hbm, 147, rfl⟩
abbrev main_v93 : Ref sig .tc := ⟨.hbm, 148, rfl⟩
abbrev main_v94 : Ref sig .tc := ⟨.hbm, 149, rfl⟩
abbrev main_cst_17 : Ref sig .tc := ⟨.hbm, 150, rfl⟩
abbrev main_v95 : Ref sig .tc := ⟨.hbm, 151, rfl⟩
abbrev main_v96 : Ref sig .tc := ⟨.hbm, 152, rfl⟩
abbrev main_cst_18 : Ref sig .tc := ⟨.hbm, 153, rfl⟩
abbrev main_v97 : Ref sig .tc := ⟨.hbm, 154, rfl⟩
abbrev main_v98 : Ref sig .tc := ⟨.hbm, 155, rfl⟩
abbrev main_cst_19 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_20 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_c : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_0 : Ref sig .tc := ⟨.hbm, 174, rfl⟩
abbrev main_call3_v12 : Ref sig .tc := ⟨.hbm, 175, rfl⟩
abbrev main_call3_v13 : Ref sig .tc := ⟨.hbm, 176, rfl⟩
abbrev main_v102 : Ref sig .tc := ⟨.hbm, 177, rfl⟩
abbrev main_v103 : Ref sig .tc := ⟨.hbm, 178, rfl⟩
abbrev main_cst_21 : Ref sig .tc := ⟨.hbm, 179, rfl⟩
abbrev main_v104 : Ref sig .tc := ⟨.hbm, 180, rfl⟩
abbrev main_v105 : Ref sig .tc := ⟨.hbm, 181, rfl⟩
abbrev main_cst_22 : Ref sig .tc := ⟨.hbm, 182, rfl⟩
abbrev main_v106 : Ref sig .tc := ⟨.hbm, 183, rfl⟩
abbrev main_v107 : Ref sig .tc := ⟨.hbm, 184, rfl⟩
abbrev main_cst_23 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_cst_24 : Ref sig .tc := ⟨.hbm, 189, rfl⟩
abbrev main_v111 : Ref sig .tc := ⟨.hbm, 190, rfl⟩
abbrev main_v112 : Ref sig .tc := ⟨.hbm, 191, rfl⟩
abbrev main_cst_25 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S224x1794 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S983x3136 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x3136 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3136x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x3136 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "big" => some ⊤
  | "third" => some ((1 / 3 : ℝ) : EReal)
  | _ => none
-- ==== ReferenceIdeal.lean ====
abbrev S8x256x56x56 : Shape := ⟨4, ![8, 256, 56, 56]⟩
abbrev S8x512x28x28 : Shape := ⟨4, ![8, 512, 28, 28]⟩
abbrev S8x1024x14x14 : Shape := ⟨4, ![8, 1024, 14, 14]⟩
abbrev S224x1794 : Shape := ⟨2, ![224, 1794]⟩
abbrev S224 : Shape := ⟨1, ![224]⟩
abbrev S224x3136 : Shape := ⟨2, ![224, 3136]⟩
abbrev S2 : Shape := ⟨1, ![2]⟩
abbrev S_ : Shape := ⟨0, ![]⟩
abbrev S1 : Shape := ⟨1, ![1]⟩
abbrev S56 : Shape := ⟨1, ![56]⟩
abbrev S28 : Shape := ⟨1, ![28]⟩
abbrev S1x56 : Shape := ⟨2, ![1, 56]⟩
abbrev S28x1 : Shape := ⟨2, ![28, 1]⟩
abbrev S28x56 : Shape := ⟨2, ![28, 56]⟩
abbrev S56x8x512x28 : Shape := ⟨4, ![56, 8, 512, 28]⟩
abbrev S56x8x512x56 : Shape := ⟨4, ![56, 8, 512, 56]⟩
abbrev S8x512x56x56 : Shape := ⟨4, ![8, 512, 56, 56]⟩
abbrev S8x768x56x56 : Shape := ⟨4, ![8, 768, 56, 56]⟩
abbrev S14 : Shape := ⟨1, ![14]⟩
abbrev S14x1 : Shape := ⟨2, ![14, 1]⟩
abbrev S14x56 : Shape := ⟨2, ![14, 56]⟩
abbrev S56x8x1024x14 : Shape := ⟨4, ![56, 8, 1024, 14]⟩
abbrev S56x8x1024x56 : Shape := ⟨4, ![56, 8, 1024, 56]⟩
abbrev S8x1024x56x56 : Shape := ⟨4, ![8, 1024, 56, 56]⟩
abbrev S8x1792x56x56 : Shape := ⟨4, ![8, 1792, 56, 56]⟩
abbrev S55 : Shape := ⟨1, ![55]⟩
abbrev S1x1x1x56 : Shape := ⟨4, ![1, 1, 1, 56]⟩
abbrev S8x1x56x56 : Shape := ⟨4, ![8, 1, 56, 56]⟩
abbrev S1x1x56x1 : Shape := ⟨4, ![1, 1, 56, 1]⟩
abbrev S8x1794x56x56 : Shape := ⟨4, ![8, 1794, 56, 56]⟩
abbrev S224x8x56x56 : Shape := ⟨4, ![224, 8, 56, 56]⟩
abbrev S8x224x56x56 : Shape := ⟨4, ![8, 224, 56, 56]⟩
abbrev S1x224x1x1 : Shape := ⟨4, ![1, 224, 1, 1]⟩
abbrev S8x224x3136 : Shape := ⟨3, ![8, 224, 3136]⟩
abbrev S8x3136x224 : Shape := ⟨3, ![8, 3136, 224]⟩
abbrev S8x3136 : Shape := ⟨2, ![8, 3136]⟩
abbrev S8x3136x1 : Shape := ⟨3, ![8, 3136, 1]⟩
abbrev S3136 : Shape := ⟨1, ![3136]⟩
abbrev S1x3136 : Shape := ⟨2, ![1, 3136]⟩
abbrev S8x3136x3136 : Shape := ⟨3, ![8, 3136, 3136]⟩
abbrev S1x1x3136 : Shape := ⟨3, ![1, 1, 3136]⟩
abbrev S8x3136x3 : Shape := ⟨3, ![8, 3136, 3]⟩
abbrev S8x1x3136 : Shape := ⟨3, ![8, 1, 3136]⟩

abbrev nBuf : Space → Nat
  | .hbm => 422
  | .vmem => 0
  | .smem => 0
  | _ => 0

abbrev hbmTy0_0 (i : Nat) : BufTy := match i % 128 with
  | 0 => ⟨S8x256x56x56, .f32⟩
  | 1 => ⟨S8x512x28x28, .f32⟩
  | 2 => ⟨S8x1024x14x14, .f32⟩
  | 3 => ⟨S224x1794, .f32⟩
  | 4 => ⟨S224, .f32⟩
  | 5 => ⟨S224x3136, .f32⟩
  | 6 => ⟨S2, .f32⟩
  | 7 => ⟨S2, .f32⟩
  | 8 => ⟨S2, .f32⟩
  | 9 => ⟨S2, .f32⟩
  | 10 => ⟨S_, .f32⟩
  | 11 => ⟨S_, .f32⟩
  | 12 => ⟨S8x256x56x56, .f32⟩
  | 13 => ⟨S_, .f32⟩
  | 14 => ⟨S8x256x56x56, .f32⟩
  | 15 => ⟨S8x256x56x56, .f32⟩
  | 16 => ⟨S_, .f32⟩
  | 17 => ⟨S_, .f32⟩
  | 18 => ⟨S8x512x28x28, .f32⟩
  | 19 => ⟨S_, .f32⟩
  | 20 => ⟨S8x512x28x28, .f32⟩
  | 21 => ⟨S8x512x28x28, .f32⟩
  | 22 => ⟨S1, .f32⟩
  | 23 => ⟨S_, .f32⟩
  | 24 => ⟨S1, .f32⟩
  | 25 => ⟨S_, .f32⟩
  | 26 => ⟨S_, .f32⟩
  | 27 => ⟨S_, .f32⟩
  | 28 => ⟨S_, .f32⟩
  | 29 => ⟨S_, .f32⟩
  | 30 => ⟨S56, .f32⟩
  | 31 => ⟨S_, .f32⟩
  | 32 => ⟨S56, .f32⟩
  | 33 => ⟨S56, .f32⟩
  | 34 => ⟨S56, .f32⟩
  | 35 => ⟨S56, .f32⟩
  | 36 => ⟨S_, .f32⟩
  | 37 => ⟨S56, .f32⟩
  | 38 => ⟨S56, .f32⟩
  | 39 => ⟨S_, .f32⟩
  | 40 => ⟨S56, .f32⟩
  | 41 => ⟨S56, .f32⟩
  | 42 => ⟨S28, .f32⟩
  | 43 => ⟨S1x56, .f32⟩
  | 44 => ⟨S28x1, .f32⟩
  | 45 => ⟨S28x56, .f32⟩
  | 46 => ⟨S28x56, .f32⟩
  | 47 => ⟨S28x56, .f32⟩
  | 48 => ⟨S28x56, .f32⟩
  | 49 => ⟨S28x56, .f32⟩
  | 50 => ⟨S28x56, .f32⟩
  | 51 => ⟨S28x56, .f32⟩
  | 52 => ⟨S_, .f32⟩
  | 53 => ⟨S28x56, .f32⟩
  | 54 => ⟨S28x56, .f32⟩
  | 55 => ⟨S_, .f32⟩
  | 56 => ⟨S28x56, .f32⟩
  | 57 => ⟨S28x56, .f32⟩
  | 58 => ⟨S_, .f32⟩
  | 59 => ⟨S56, .f32⟩
  | 60 => ⟨S1x56, .f32⟩
  | 61 => ⟨S1x56, .f32⟩
  | 62 => ⟨S_, .f32⟩
  | 63 => ⟨S1x56, .f32⟩
  | 64 => ⟨S1x56, .i1⟩
  | 65 => ⟨S_, .f32⟩
  | 66 => ⟨S1x56, .f32⟩
  | 67 => ⟨S1x56, .i1⟩
  | 68 => ⟨S_, .i32⟩
  | 69 => ⟨S_, .f32⟩
  | 70 => ⟨S1x56, .f32⟩
  | 71 => ⟨S1x56, .f32⟩
  | 72 => ⟨S28x56, .f32⟩
  | 73 => ⟨S28x56, .f32⟩
  | 74 => ⟨S_, .i32⟩
  | 75 => ⟨S_, .f32⟩
  | 76 => ⟨S28x56, .i1⟩
  | 77 => ⟨S28x56, .f32⟩
  | 78 => ⟨S28x56, .f32⟩
  | 79 => ⟨S_, .f32⟩
  | 80 => ⟨S56, .f32⟩
  | 81 => ⟨S56, .i1⟩
  | 82 => ⟨S_, .f32⟩
  | 83 => ⟨S56, .f32⟩
  | 84 => ⟨S56, .i1⟩
  | 85 => ⟨S56, .i1⟩
  | 86 => ⟨S1x56, .i1⟩
  | 87 => ⟨S_, .i32⟩
  | 88 => ⟨S_, .f32⟩
  | 89 => ⟨S28x56, .i1⟩
  | 90 => ⟨S28x56, .f32⟩
  | 91 => ⟨S28x56, .f32⟩
  | 92 => ⟨S1, .f32⟩
  | 93 => ⟨S_, .f32⟩
  | 94 => ⟨S1, .f32⟩
  | 95 => ⟨S_, .f32⟩
  | 96 => ⟨S_, .f32⟩
  | 97 => ⟨S_, .f32⟩
  | 98 => ⟨S_, .f32⟩
  | 99 => ⟨S_, .f32⟩
  | 100 => ⟨S56, .f32⟩
  | 101 => ⟨S_, .f32⟩
  | 102 => ⟨S56, .f32⟩
  | 103 => ⟨S56, .f32⟩
  | 104 => ⟨S56, .f32⟩
  | 105 => ⟨S56, .f32⟩
  | 106 => ⟨S_, .f32⟩
  | 107 => ⟨S56, .f32⟩
  | 108 => ⟨S56, .f32⟩
  | 109 => ⟨S_, .f32⟩
  | 110 => ⟨S56, .f32⟩
  | 111 => ⟨S56, .f32⟩
  | 112 => ⟨S28, .f32⟩
  | 113 => ⟨S1x56, .f32⟩
  | 114 => ⟨S28x1, .f32⟩
  | 115 => ⟨S28x56, .f32⟩
  | 116 => ⟨S28x56, .f32⟩
  | 117 => ⟨S28x56, .f32⟩
  | 118 => ⟨S28x56, .f32⟩
  | 119 => ⟨S28x56, .f32⟩
  | 120 => ⟨S28x56, .f32⟩
  | 121 => ⟨S28x56, .f32⟩
  | 122 => ⟨S_, .f32⟩
  | 123 => ⟨S28x56, .f32⟩
  | 124 => ⟨S28x56, .f32⟩
  | 125 => ⟨S_, .f32⟩
  | 126 => ⟨S28x56, .f32⟩
  | 127 => ⟨S28x56, .f32⟩
  | _ => ⟨S8x256x56x56, .f32⟩

abbrev hbmTy0_1 (i : Nat) : BufTy := match i % 128 with
  | 0 => ⟨S_, .f32⟩
  | 1 => ⟨S56, .f32⟩
  | 2 => ⟨S1x56, .f32⟩
  | 3 => ⟨S1x56, .f32⟩
  | 4 => ⟨S_, .f32⟩
  | 5 => ⟨S1x56, .f32⟩
  | 6 => ⟨S1x56, .i1⟩
  | 7 => ⟨S_, .f32⟩
  | 8 => ⟨S1x56, .f32⟩
  | 9 => ⟨S1x56, .i1⟩
  | 10 => ⟨S_, .i32⟩
  | 11 => ⟨S_, .f32⟩
  | 12 => ⟨S1x56, .f32⟩
  | 13 => ⟨S1x56, .f32⟩
  | 14 => ⟨S28x56, .f32⟩
  | 15 => ⟨S28x56, .f32⟩
  | 16 => ⟨S_, .i32⟩
  | 17 => ⟨S_, .f32⟩
  | 18 => ⟨S28x56, .i1⟩
  | 19 => ⟨S28x56, .f32⟩
  | 20 => ⟨S28x56, .f32⟩
  | 21 => ⟨S_, .f32⟩
  | 22 => ⟨S56, .f32⟩
  | 23 => ⟨S56, .i1⟩
  | 24 => ⟨S_, .f32⟩
  | 25 => ⟨S56, .f32⟩
  | 26 => ⟨S56, .i1⟩
  | 27 => ⟨S56, .i1⟩
  | 28 => ⟨S1x56, .i1⟩
  | 29 => ⟨S_, .i32⟩
  | 30 => ⟨S_, .f32⟩
  | 31 => ⟨S28x56, .i1⟩
  | 32 => ⟨S28x56, .f32⟩
  | 33 => ⟨S28x56, .f32⟩
  | 34 => ⟨S56x8x512x28, .f32⟩
  | 35 => ⟨S56x8x512x56, .f32⟩
  | 36 => ⟨S8x512x56x56, .f32⟩
  | 37 => ⟨S8x768x56x56, .f32⟩
  | 38 => ⟨S_, .f32⟩
  | 39 => ⟨S_, .f32⟩
  | 40 => ⟨S8x1024x14x14, .f32⟩
  | 41 => ⟨S_, .f32⟩
  | 42 => ⟨S8x1024x14x14, .f32⟩
  | 43 => ⟨S8x1024x14x14, .f32⟩
  | 44 => ⟨S1, .f32⟩
  | 45 => ⟨S_, .f32⟩
  | 46 => ⟨S1, .f32⟩
  | 47 => ⟨S_, .f32⟩
  | 48 => ⟨S_, .f32⟩
  | 49 => ⟨S_, .f32⟩
  | 50 => ⟨S_, .f32⟩
  | 51 => ⟨S_, .f32⟩
  | 52 => ⟨S56, .f32⟩
  | 53 => ⟨S_, .f32⟩
  | 54 => ⟨S56, .f32⟩
  | 55 => ⟨S56, .f32⟩
  | 56 => ⟨S56, .f32⟩
  | 57 => ⟨S56, .f32⟩
  | 58 => ⟨S_, .f32⟩
  | 59 => ⟨S56, .f32⟩
  | 60 => ⟨S56, .f32⟩
  | 61 => ⟨S_, .f32⟩
  | 62 => ⟨S56, .f32⟩
  | 63 => ⟨S56, .f32⟩
  | 64 => ⟨S14, .f32⟩
  | 65 => ⟨S1x56, .f32⟩
  | 66 => ⟨S14x1, .f32⟩
  | 67 => ⟨S14x56, .f32⟩
  | 68 => ⟨S14x56, .f32⟩
  | 69 => ⟨S14x56, .f32⟩
  | 70 => ⟨S14x56, .f32⟩
  | 71 => ⟨S14x56, .f32⟩
  | 72 => ⟨S14x56, .f32⟩
  | 73 => ⟨S14x56, .f32⟩
  | 74 => ⟨S_, .f32⟩
  | 75 => ⟨S14x56, .f32⟩
  | 76 => ⟨S14x56, .f32⟩
  | 77 => ⟨S_, .f32⟩
  | 78 => ⟨S14x56, .f32⟩
  | 79 => ⟨S14x56, .f32⟩
  | 80 => ⟨S_, .f32⟩
  | 81 => ⟨S56, .f32⟩
  | 82 => ⟨S1x56, .f32⟩
  | 83 => ⟨S1x56, .f32⟩
  | 84 => ⟨S_, .f32⟩
  | 85 => ⟨S1x56, .f32⟩
  | 86 => ⟨S1x56, .i1⟩
  | 87 => ⟨S_, .f32⟩
  | 88 => ⟨S1x56, .f32⟩
  | 89 => ⟨S1x56, .i1⟩
  | 90 => ⟨S_, .i32⟩
  | 91 => ⟨S_, .f32⟩
  | 92 => ⟨S1x56, .f32⟩
  | 93 => ⟨S1x56, .f32⟩
  | 94 => ⟨S14x56, .f32⟩
  | 95 => ⟨S14x56, .f32⟩
  | 96 => ⟨S_, .i32⟩
  | 97 => ⟨S_, .f32⟩
  | 98 => ⟨S14x56, .i1⟩
  | 99 => ⟨S14x56, .f32⟩
  | 100 => ⟨S14x56, .f32⟩
  | 101 => ⟨S_, .f32⟩
  | 102 => ⟨S56, .f32⟩
  | 103 => ⟨S56, .i1⟩
  | 104 => ⟨S_, .f32⟩
  | 105 => ⟨S56, .f32⟩
  | 106 => ⟨S56, .i1⟩
  | 107 => ⟨S56, .i1⟩
  | 108 => ⟨S1x56, .i1⟩
  | 109 => ⟨S_, .i32⟩
  | 110 => ⟨S_, .f32⟩
  | 111 => ⟨S14x56, .i1⟩
  | 112 => ⟨S14x56, .f32⟩
  | 113 => ⟨S14x56, .f32⟩
  | 114 => ⟨S1, .f32⟩
  | 115 => ⟨S_, .f32⟩
  | 116 => ⟨S1, .f32⟩
  | 117 => ⟨S_, .f32⟩
  | 118 => ⟨S_, .f32⟩
  | 119 => ⟨S_, .f32⟩
  | 120 => ⟨S_, .f32⟩
  | 121 => ⟨S_, .f32⟩
  | 122 => ⟨S56, .f32⟩
  | 123 => ⟨S_, .f32⟩
  | 124 => ⟨S56, .f32⟩
  | 125 => ⟨S56, .f32⟩
  | 126 => ⟨S56, .f32⟩
  | 127 => ⟨S56, .f32⟩
  | _ => ⟨S8x256x56x56, .f32⟩

abbrev hbmTy0_2 (i : Nat) : BufTy := match i % 128 with
  | 0 => ⟨S_, .f32⟩
  | 1 => ⟨S56, .f32⟩
  | 2 => ⟨S56, .f32⟩
  | 3 => ⟨S_, .f32⟩
  | 4 => ⟨S56, .f32⟩
  | 5 => ⟨S56, .f32⟩
  | 6 => ⟨S14, .f32⟩
  | 7 => ⟨S1x56, .f32⟩
  | 8 => ⟨S14x1, .f32⟩
  | 9 => ⟨S14x56, .f32⟩
  | 10 => ⟨S14x56, .f32⟩
  | 11 => ⟨S14x56, .f32⟩
  | 12 => ⟨S14x56, .f32⟩
  | 13 => ⟨S14x56, .f32⟩
  | 14 => ⟨S14x56, .f32⟩
  | 15 => ⟨S14x56, .f32⟩
  | 16 => ⟨S_, .f32⟩
  | 17 => ⟨S14x56, .f32⟩
  | 18 => ⟨S14x56, .f32⟩
  | 19 => ⟨S_, .f32⟩
  | 20 => ⟨S14x56, .f32⟩
  | 21 => ⟨S14x56, .f32⟩
  | 22 => ⟨S_, .f32⟩
  | 23 => ⟨S56, .f32⟩
  | 24 => ⟨S1x56, .f32⟩
  | 25 => ⟨S1x56, .f32⟩
  | 26 => ⟨S_, .f32⟩
  | 27 => ⟨S1x56, .f32⟩
  | 28 => ⟨S1x56, .i1⟩
  | 29 => ⟨S_, .f32⟩
  | 30 => ⟨S1x56, .f32⟩
  | 31 => ⟨S1x56, .i1⟩
  | 32 => ⟨S_, .i32⟩
  | 33 => ⟨S_, .f32⟩
  | 34 => ⟨S1x56, .f32⟩
  | 35 => ⟨S1x56, .f32⟩
  | 36 => ⟨S14x56, .f32⟩
  | 37 => ⟨S14x56, .f32⟩
  | 38 => ⟨S_, .i32⟩
  | 39 => ⟨S_, .f32⟩
  | 40 => ⟨S14x56, .i1⟩
  | 41 => ⟨S14x56, .f32⟩
  | 42 => ⟨S14x56, .f32⟩
  | 43 => ⟨S_, .f32⟩
  | 44 => ⟨S56, .f32⟩
  | 45 => ⟨S56, .i1⟩
  | 46 => ⟨S_, .f32⟩
  | 47 => ⟨S56, .f32⟩
  | 48 => ⟨S56, .i1⟩
  | 49 => ⟨S56, .i1⟩
  | 50 => ⟨S1x56, .i1⟩
  | 51 => ⟨S_, .i32⟩
  | 52 => ⟨S_, .f32⟩
  | 53 => ⟨S14x56, .i1⟩
  | 54 => ⟨S14x56, .f32⟩
  | 55 => ⟨S14x56, .f32⟩
  | 56 => ⟨S56x8x1024x14, .f32⟩
  | 57 => ⟨S56x8x1024x56, .f32⟩
  | 58 => ⟨S8x1024x56x56, .f32⟩
  | 59 => ⟨S8x1792x56x56, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S55, .f32⟩
  | 68 => ⟨S_, .f32⟩
  | 69 => ⟨S55, .f32⟩
  | 70 => ⟨S55, .f32⟩
  | 71 => ⟨S1, .f32⟩
  | 72 => ⟨S_, .f32⟩
  | 73 => ⟨S55, .f32⟩
  | 74 => ⟨S55, .f32⟩
  | 75 => ⟨S55, .f32⟩
  | 76 => ⟨S55, .f32⟩
  | 77 => ⟨S1, .f32⟩
  | 78 => ⟨S55, .f32⟩
  | 79 => ⟨S55, .f32⟩
  | 80 => ⟨S55, .f32⟩
  | 81 => ⟨S1, .f32⟩
  | 82 => ⟨S56, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S55, .f32⟩
  | 91 => ⟨S_, .f32⟩
  | 92 => ⟨S55, .f32⟩
  | 93 => ⟨S55, .f32⟩
  | 94 => ⟨S1, .f32⟩
  | 95 => ⟨S_, .f32⟩
  | 96 => ⟨S55, .f32⟩
  | 97 => ⟨S55, .f32⟩
  | 98 => ⟨S55, .f32⟩
  | 99 => ⟨S55, .f32⟩
  | 100 => ⟨S1, .f32⟩
  | 101 => ⟨S55, .f32⟩
  | 102 => ⟨S55, .f32⟩
  | 103 => ⟨S55, .f32⟩
  | 104 => ⟨S1, .f32⟩
  | 105 => ⟨S56, .f32⟩
  | 106 => ⟨S1x1x1x56, .f32⟩
  | 107 => ⟨S8x1x56x56, .f32⟩
  | 108 => ⟨S1x1x56x1, .f32⟩
  | 109 => ⟨S8x1x56x56, .f32⟩
  | 110 => ⟨S8x1794x56x56, .f32⟩
  | 111 => ⟨S224x8x56x56, .f32⟩
  | 112 => ⟨S8x224x56x56, .f32⟩
  | 113 => ⟨S1x224x1x1, .f32⟩
  | 114 => ⟨S8x224x56x56, .f32⟩
  | 115 => ⟨S8x224x56x56, .f32⟩
  | 116 => ⟨S8x224x3136, .f32⟩
  | 117 => ⟨S8x3136x224, .f32⟩
  | 118 => ⟨S8x3136x224, .f32⟩
  | 119 => ⟨S_, .f32⟩
  | 120 => ⟨S8x3136, .f32⟩
  | 121 => ⟨S8x3136x1, .f32⟩
  | 122 => ⟨S224x3136, .f32⟩
  | 123 => ⟨S_, .f32⟩
  | 124 => ⟨S3136, .f32⟩
  | 125 => ⟨S1x3136, .f32⟩
  | 126 => ⟨S8x3136x3136, .f32⟩
  | 127 => ⟨S_, .f32⟩
  | _ => ⟨S8x256x56x56, .f32⟩

abbrev hbmTy0_3 (i : Nat) : BufTy := match i % 128 with
  | 0 => ⟨S8x3136x3136, .f32⟩
  | 1 => ⟨S8x3136x3136, .f32⟩
  | 2 => ⟨S1x1x3136, .f32⟩
  | 3 => ⟨S8x3136x3136, .f32⟩
  | 4 => ⟨S8x3136x3136, .f32⟩
  | 5 => ⟨S8x3136x3136, .f32⟩
  | 6 => ⟨S8x3136x3136, .f32⟩
  | 7 => ⟨S_, .f32⟩
  | 8 => ⟨S_, .f32⟩
  | 9 => ⟨S8x3136x3136, .f32⟩
  | 10 => ⟨S8x3136x3136, .f32⟩
  | 11 => ⟨S8x3136x3136, .f32⟩
  | 12 => ⟨S8x3136x3136, .f32⟩
  | 13 => ⟨S8x3136x3, .f32⟩
  | 14 => ⟨S8x3136x3, .i32⟩
  | 15 => ⟨S8x3136x3, .f32⟩
  | 16 => ⟨S8x3136x3, .f32⟩
  | 17 => ⟨S_, .f32⟩
  | 18 => ⟨S8x3136, .f32⟩
  | 19 => ⟨S_, .f32⟩
  | 20 => ⟨S8x3136, .f32⟩
  | 21 => ⟨S8x3136, .f32⟩
  | 22 => ⟨S8x3136x1, .f32⟩
  | 23 => ⟨S8x3136x3, .f32⟩
  | 24 => ⟨S8x3136x3, .f32⟩
  | 25 => ⟨S8x3136x3, .f32⟩
  | 26 => ⟨S_, .f32⟩
  | 27 => ⟨S8x3136, .f32⟩
  | 28 => ⟨S8x3136x1, .f32⟩
  | 29 => ⟨S8x3136x3, .f32⟩
  | 30 => ⟨S8x3136x3, .f32⟩
  | 31 => ⟨S8x3136x1, .f32⟩
  | 32 => ⟨S8x3136, .f32⟩
  | 33 => ⟨S8x3136x1, .f32⟩
  | 34 => ⟨S8x3136, .f32⟩
  | 35 => ⟨S8x3136, .f32⟩
  | 36 => ⟨S8x3136x1, .f32⟩
  | 37 => ⟨S8x1x3136, .f32⟩
  | _ => ⟨S8x256x56x56, .f32⟩

abbrev hbmTy (i : Nat) : BufTy := match i / 128 with
  | 0 => hbmTy0_0 i
  | 1 => hbmTy0_1 i
  | 2 => hbmTy0_2 i
  | 3 => hbmTy0_3 i
  | _ => ⟨S8x256x56x56, .f32⟩

abbrev bufTy : (tb : Table) → Fin (tcTables nBuf tb) → BufTy
  | .hbm, ⟨i, _⟩ => hbmTy i
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev main_v1 : Ref sig .tc := ⟨.hbm, 12, rfl⟩
abbrev main_cst_4 : Ref sig .tc := ⟨.hbm, 13, rfl⟩
abbrev main_v2 : Ref sig .tc := ⟨.hbm, 14, rfl⟩
abbrev main_v3 : Ref sig .tc := ⟨.hbm, 15, rfl⟩
abbrev main_cst_5 : Ref sig .tc := ⟨.hbm, 16, rfl⟩
abbrev main_v4 : Ref sig .tc := ⟨.hbm, 17, rfl⟩
abbrev main_v5 : Ref sig .tc := ⟨.hbm, 18, rfl⟩
abbrev main_cst_6 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_7 : Ref sig .tc := ⟨.hbm, 26, rfl⟩
abbrev main_v12 : Ref sig .tc := ⟨.hbm, 27, rfl⟩
abbrev main_cst_8 : Ref sig .tc := ⟨.hbm, 28, rfl⟩
abbrev main_v13 : Ref sig .tc := ⟨.hbm, 29, rfl⟩
abbrev main_v14 : Ref sig .tc := ⟨.hbm, 30, rfl⟩
abbrev main_cst_9 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_10 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_cst_13 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_14 : Ref sig .tc := ⟨.hbm, 62, rfl⟩
abbrev main_v41 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_16 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_cst_17 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_19 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_20 : Ref sig .tc := ⟨.hbm, 96, rfl⟩
abbrev main_v60 : Ref sig .tc := ⟨.hbm, 97, rfl⟩
abbrev main_cst_21 : Ref sig .tc := ⟨.hbm, 98, rfl⟩
abbrev main_v61 : Ref sig .tc := ⟨.hbm, 99, rfl⟩
abbrev main_v62 : Ref sig .tc := ⟨.hbm, 100, rfl⟩
abbrev main_cst_22 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_23 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_24 : Ref sig .tc := ⟨.hbm, 122, rfl⟩
abbrev main_v82 : Ref sig .tc := ⟨.hbm, 123, rfl⟩
abbrev main_v83 : Ref sig .tc := ⟨.hbm, 124, rfl⟩
abbrev main_cst_25 : Ref sig .tc := ⟨.hbm, 125, rfl⟩
abbrev main_v84 : Ref sig .tc := ⟨.hbm, 126, rfl⟩
abbrev main_v85 : Ref sig .tc := ⟨.hbm, 127, rfl⟩
abbrev main_cst_26 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_27 : Ref sig .tc := ⟨.hbm, 132, rfl⟩
abbrev main_v89 : Ref sig .tc := ⟨.hbm, 133, rfl⟩
abbrev main_v90 : Ref sig .tc := ⟨.hbm, 134, rfl⟩
abbrev main_cst_28 : Ref sig .tc := ⟨.hbm, 135, rfl⟩
abbrev main_v91 : Ref sig .tc := ⟨.hbm, 136, rfl⟩
abbrev main_v92 : Ref sig .tc := ⟨.hbm, 137, rfl⟩
abbrev main_c_29 : Ref sig .tc := ⟨.hbm, 138, rfl⟩
abbrev main_call3_v0 : Ref sig .tc := ⟨.hbm, 139, rfl⟩
abbrev main_call3_v1 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_c_30 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v96 : Ref sig .tc := ⟨.hbm, 148, rfl⟩
abbrev main_cst_31 : Ref sig .tc := ⟨.hbm, 149, rfl⟩
abbrev main_v97 : Ref sig .tc := ⟨.hbm, 150, rfl⟩
abbrev main_v98 : Ref sig .tc := ⟨.hbm, 151, rfl⟩
abbrev main_cst_32 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_33 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_34 : Ref sig .tc := ⟨.hbm, 166, rfl⟩
abbrev main_v108 : Ref sig .tc := ⟨.hbm, 167, rfl⟩
abbrev main_v109 : Ref sig .tc := ⟨.hbm, 168, rfl⟩
abbrev main_cst_35 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_36 : Ref sig .tc := ⟨.hbm, 176, rfl⟩
abbrev main_v116 : Ref sig .tc := ⟨.hbm, 177, rfl⟩
abbrev main_cst_37 : Ref sig .tc := ⟨.hbm, 178, rfl⟩
abbrev main_v117 : Ref sig .tc := ⟨.hbm, 179, rfl⟩
abbrev main_v118 : Ref sig .tc := ⟨.hbm, 180, rfl⟩
abbrev main_cst_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_39 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_40 : Ref sig .tc := ⟨.hbm, 202, rfl⟩
abbrev main_v138 : Ref sig .tc := ⟨.hbm, 203, rfl⟩
abbrev main_v139 : Ref sig .tc := ⟨.hbm, 204, rfl⟩
abbrev main_cst_41 : Ref sig .tc := ⟨.hbm, 205, rfl⟩
abbrev main_v140 : Ref sig .tc := ⟨.hbm, 206, rfl⟩
abbrev main_v141 : Ref sig .tc := ⟨.hbm, 207, rfl⟩
abbrev main_cst_42 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_43 : Ref sig .tc := ⟨.hbm, 212, rfl⟩
abbrev main_v145 : Ref sig .tc := ⟨.hbm, 213, rfl⟩
abbrev main_v146 : Ref sig .tc := ⟨.hbm, 214, rfl⟩
abbrev main_cst_44 : Ref sig .tc := ⟨.hbm, 215, rfl⟩
abbrev main_v147 : Ref sig .tc := ⟨.hbm, 216, rfl⟩
abbrev main_v148 : Ref sig .tc := ⟨.hbm, 217, rfl⟩
abbrev main_c_45 : Ref sig .tc := ⟨.hbm, 218, rfl⟩
abbrev main_call6_v0 : Ref sig .tc := ⟨.hbm, 219, rfl⟩
abbrev main_call6_v1 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_c_46 : Ref sig .tc := ⟨.hbm, 224, rfl⟩
abbrev main_call7_v0 : Ref sig .tc := ⟨.hbm, 225, rfl⟩
abbrev main_call7_v1 : Ref sig .tc := ⟨.hbm, 226, rfl⟩
abbrev main_call7_v2 : Ref sig .tc := ⟨.hbm, 227, rfl⟩
abbrev main_v152 : Ref sig .tc := ⟨.hbm, 228, rfl⟩
abbrev main_cst_47 : Ref sig .tc := ⟨.hbm, 229, rfl⟩
abbrev main_v153 : Ref sig .tc := ⟨.hbm, 230, rfl⟩
abbrev main_v154 : Ref sig .tc := ⟨.hbm, 231, rfl⟩
abbrev main_cst_48 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_c_49 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_cst_50 : Ref sig .tc := ⟨.hbm, 246, rfl⟩
abbrev main_v164 : Ref sig .tc := ⟨.hbm, 247, rfl⟩
abbrev main_cst_51 : Ref sig .tc := ⟨.hbm, 248, rfl⟩
abbrev main_v165 : Ref sig .tc := ⟨.hbm, 249, rfl⟩
abbrev main_v166 : Ref sig .tc := ⟨.hbm, 250, rfl⟩
abbrev main_cst_52 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_cst_53 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_cst_54 : Ref sig .tc := ⟨.hbm, 272, rfl⟩
abbrev main_v186 : Ref sig .tc := ⟨.hbm, 273, rfl⟩
abbrev main_v187 : Ref sig .tc := ⟨.hbm, 274, rfl⟩
abbrev main_cst_55 : Ref sig .tc := ⟨.hbm, 275, rfl⟩
abbrev main_v188 : Ref sig .tc := ⟨.hbm, 276, rfl⟩
abbrev main_v189 : Ref sig .tc := ⟨.hbm, 277, rfl⟩
abbrev main_cst_56 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_cst_57 : Ref sig .tc := ⟨.hbm, 282, rfl⟩
abbrev main_v193 : Ref sig .tc := ⟨.hbm, 283, rfl⟩
abbrev main_v194 : Ref sig .tc := ⟨.hbm, 284, rfl⟩
abbrev main_cst_58 : Ref sig .tc := ⟨.hbm, 285, rfl⟩
abbrev main_v195 : Ref sig .tc := ⟨.hbm, 286, rfl⟩
abbrev main_v196 : Ref sig .tc := ⟨.hbm, 287, rfl⟩
abbrev main_c_59 : Ref sig .tc := ⟨.hbm, 288, rfl⟩
abbrev main_call9_v0 : Ref sig .tc := ⟨.hbm, 289, rfl⟩
abbrev main_call9_v1 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_c_60 : Ref sig .tc := ⟨.hbm, 294, rfl⟩
abbrev main_call10_v0 : Ref sig .tc := ⟨.hbm, 295, rfl⟩
abbrev main_call10_v1 : Ref sig .tc := ⟨.hbm, 296, rfl⟩
abbrev main_call10_v2 : Ref sig .tc := ⟨.hbm, 297, rfl⟩
abbrev main_v200 : Ref sig .tc := ⟨.hbm, 298, rfl⟩
abbrev main_cst_61 : Ref sig .tc := ⟨.hbm, 299, rfl⟩
abbrev main_v201 : Ref sig .tc := ⟨.hbm, 300, rfl⟩
abbrev main_v202 : Ref sig .tc := ⟨.hbm, 301, rfl⟩
abbrev main_cst_62 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_c_63 : Ref sig .tc := ⟨.hbm, 307, rfl⟩
abbrev main_call11_v0 : Ref sig .tc := ⟨.hbm, 308, rfl⟩
abbrev main_call11_v1 : Ref sig .tc := ⟨.hbm, 309, rfl⟩
abbrev main_call11_v2 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_cst_64 : Ref sig .tc := ⟨.hbm, 316, rfl⟩
abbrev main_cst_65 : Ref sig .tc := ⟨.hbm, 317, rfl⟩
abbrev main_call12_v0 : Ref sig .tc := ⟨.hbm, 318, rfl⟩
abbrev main_call12_v1 : Ref sig .tc := ⟨.hbm, 319, rfl⟩
abbrev main_call12_v2 : Ref sig .tc := ⟨.hbm, 320, rfl⟩
abbrev main_call12_cst : Ref sig .tc := ⟨.hbm, 321, rfl⟩
abbrev main_call12_v3 : Ref sig .tc := ⟨.hbm, 322, rfl⟩
abbrev main_call12_v4 : Ref sig .tc := ⟨.hbm, 323, rfl⟩
abbrev main_call12_cst_0 : Ref sig .tc := ⟨.hbm, 324, rfl⟩
abbrev main_call12_v5 : Ref sig .tc := ⟨.hbm, 325, rfl⟩
abbrev main_call12_v6 : Ref sig .tc := ⟨.hbm, 326, rfl⟩
abbrev main_call12_v7 : Ref sig .tc := ⟨.hbm, 327, rfl⟩
abbrev main_call12_cst_1 : Ref sig .tc := ⟨.hbm, 328, rfl⟩
abbrev main_call12_v8 : Ref sig .tc := ⟨.hbm, 329, rfl⟩
abbrev main_call12_v9 : Ref sig .tc := ⟨.hbm, 330, rfl⟩
abbrev main_call12_v10 : Ref sig .tc := ⟨.hbm, 331, rfl⟩
abbrev main_call12_v11 : Ref sig .tc := ⟨.hbm, 332, rfl⟩
abbrev main_call12_v12 : Ref sig .tc := ⟨.hbm, 333, rfl⟩
abbrev main_call12_v13 : Ref sig .tc := ⟨.hbm, 334, rfl⟩
abbrev main_call12_v14 : Ref sig .tc := ⟨.hbm, 335, rfl⟩
abbrev main_call12_v15 : Ref sig .tc := ⟨.hbm, 336, rfl⟩
abbrev main_call12_v16 : Ref sig .tc := ⟨.hbm, 337, rfl⟩
abbrev main_v212 : Ref sig .tc := ⟨.hbm, 338, rfl⟩
abbrev main_cst_66 : Ref sig .tc := ⟨.hbm, 339, rfl⟩
abbrev main_cst_67 : Ref sig .tc := ⟨.hbm, 340, rfl⟩
abbrev main_call13_v0 : Ref sig .tc := ⟨.hbm, 341, rfl⟩
abbrev main_call13_v1 : Ref sig .tc := ⟨.hbm, 342, rfl⟩
abbrev main_call13_v2 : Ref sig .tc := ⟨.hbm, 343, rfl⟩
abbrev main_call13_cst : Ref sig .tc := ⟨.hbm, 344, rfl⟩
abbrev main_call13_v3 : Ref sig .tc := ⟨.hbm, 345, rfl⟩
abbrev main_call13_v4 : Ref sig .tc := ⟨.hbm, 346, rfl⟩
abbrev main_call13_cst_0 : Ref sig .tc := ⟨.hbm, 347, rfl⟩
abbrev main_call13_v5 : Ref sig .tc := ⟨.hbm, 348, rfl⟩
abbrev main_call13_v6 : Ref sig .tc := ⟨.hbm, 349, rfl⟩
abbrev main_call13_v7 : Ref sig .tc := ⟨.hbm, 350, rfl⟩
abbrev main_call13_cst_1 : Ref sig .tc := ⟨.hbm, 351, rfl⟩
abbrev main_call13_v8 : Ref sig .tc := ⟨.hbm, 352, rfl⟩
abbrev main_call13_v9 : Ref sig .tc := ⟨.hbm, 353, rfl⟩
abbrev main_call13_v10 : Ref sig .tc := ⟨.hbm, 354, rfl⟩
abbrev main_call13_v11 : Ref sig .tc := ⟨.hbm, 355, rfl⟩
abbrev main_call13_v12 : Ref sig .tc := ⟨.hbm, 356, rfl⟩
abbrev main_call13_v13 : Ref sig .tc := ⟨.hbm, 357, rfl⟩
abbrev main_call13_v14 : Ref sig .tc := ⟨.hbm, 358, rfl⟩
abbrev main_call13_v15 : Ref sig .tc := ⟨.hbm, 359, rfl⟩
abbrev main_call13_v16 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_v226 : Ref sig .tc := ⟨.hbm, 374, rfl⟩
abbrev main_cst_68 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_cst_69 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_cst_70 : Ref sig .tc := ⟨.hbm, 383, rfl⟩
abbrev main_v233 : Ref sig .tc := ⟨.hbm, 384, rfl⟩
abbrev main_v234 : Ref sig .tc := ⟨.hbm, 385, rfl⟩
abbrev main_v235 : Ref sig .tc := ⟨.hbm, 386, rfl⟩
abbrev main_v236 : Ref sig .tc := ⟨.hbm, 387, rfl⟩
abbrev main_v237 : Ref sig .tc := ⟨.hbm, 388, rfl⟩
abbrev main_v238 : Ref sig .tc := ⟨.hbm, 389, rfl⟩
abbrev main_v239 : Ref sig .tc := ⟨.hbm, 390, rfl⟩
abbrev main_cst_71 : Ref sig .tc := ⟨.hbm, 391, rfl⟩
abbrev main_call14_v0 : Ref sig .tc := ⟨.hbm, 392, rfl⟩
abbrev main_call14_v1 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_values : Ref sig .tc := ⟨.hbm, 397, rfl⟩
abbrev main_indices : Ref sig .tc := ⟨.hbm, 398, rfl⟩
abbrev main_v243 : Ref sig .tc := ⟨.hbm, 399, rfl⟩
abbrev main_v244 : Ref sig .tc := ⟨.hbm, 400, rfl⟩
abbrev main_cst_72 : Ref sig .tc := ⟨.hbm, 401, rfl⟩
abbrev main_v245 : Ref sig .tc := ⟨.hbm, 402, rfl⟩
abbrev main_cst_73 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_cst_74 : Ref sig .tc := ⟨.hbm, 410, rfl⟩
abbrev main_v252 : Ref sig .tc := ⟨.hbm, 411, rfl⟩
abbrev main_v253 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_v259 : Ref sig .tc := ⟨.hbm, 418, rfl⟩
abbrev main_v260 : Ref sig .tc := ⟨.hbm, 419, rfl⟩
abbrev main_v261 : Ref sig .tc := ⟨.hbm, 420, rfl⟩
abbrev main_v262 : Ref sig .tc := ⟨.hbm, 421, rfl⟩

abbrev nD : Nat := 1
abbrev τ : Topo := Topo.v7x

variable {F : FTy → Type} [FloatOps F]
-- ==== Proof.Frames.lean ====
/- The claims that say nothing of values: the kernel, its idealized program and the reference all run and leave
   their arguments alone, and the two named constants stand for what the printed literals round. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel as written runs and keeps its arguments. -/
theorem frame_p (h : Cert.Kernel.Facts := Cert.Kernel.Gen.facts) : Cert.quiescent_Kernel (hKernel := h) :=
  fun m ρ _ => Cert.Kernel.Gen.frame m ρ

/-- The idealized kernel runs and keeps its arguments. -/
theorem frame_pi (h : Cert.KernelIdeal.Facts := Cert.KernelIdeal.Gen.facts) :
    Cert.quiescent_KernelIdeal (hKernelIdeal := h) :=
  fun m ρ _ => Cert.KernelIdeal.Gen.frame m ρ

/-- The reference runs and keeps its arguments; it declares no semaphore. -/
theorem frame_ri (h : Cert.ReferenceIdeal.Facts := Cert.ReferenceIdeal.Gen.facts) :
    Cert.quiescent_ReferenceIdeal (hReferenceIdeal := h) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The third that the kernel multiplies by is named one third, and the bound it starts the search from is named
    infinity. -/
theorem preserves : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "big" .f32 0x7F61B1E6#32 ⊤ rfl⟩

end Cert.Proof

end
-- ==== Proof.Reals.lean ====
/- Finite extended reals computed as real numbers.

   Each lemma moves one operation inside the embedding of the reals, so that an expression whose leaves are real numbers
   becomes the embedding of one real expression. The constants the two programs use are read here as well. -/
module

public import Idealize.ShloMosaic.Lib.IdealHost
public import Idealize.ShloMosaic.PureOps.Ideal
public import Idealize.ShloMosaic.Lib.WordArith

@[expose] public section

noncomputable section

namespace Cert.Reals

open Idealize.ShloMosaic

/-! ## Operations -/

theorem zero : (0 : EReal) = ((0 : ℝ) : EReal) := EReal.coe_zero.symm
theorem one : (1 : EReal) = ((1 : ℝ) : EReal) := EReal.coe_one.symm
theorem add (a b : ℝ) : (a : EReal) + (b : EReal) = ((a + b : ℝ) : EReal) := (EReal.coe_add a b).symm
theorem mul (a b : ℝ) : (a : EReal) * (b : EReal) = ((a * b : ℝ) : EReal) := (EReal.coe_mul a b).symm
theorem sub (a b : ℝ) : (a : EReal) - (b : EReal) = ((a - b : ℝ) : EReal) := (EReal.coe_sub a b).symm
theorem neg (a : ℝ) : -(a : EReal) = ((-a : ℝ) : EReal) := (EReal.coe_neg a).symm
theorem max (a b : ℝ) : Max.max (a : EReal) (b : EReal) = ((Max.max a b : ℝ) : EReal) :=
  (EReal.coe_strictMono.monotone.map_max (a := a) (b := b)).symm
theorem ite (p : Prop) [Decidable p] (a b : ℝ) : (if p then (a : EReal) else (b : EReal)) = ((if p then a else b : ℝ) : EReal) := by
  split <;> rfl
theorem dite (p : Prop) [Decidable p] (a : p → ℝ) (b : ¬p → ℝ) :
    (if h : p then (a h : EReal) else (b h : EReal)) = ((if h : p then a h else b h : ℝ) : EReal) := by
  split <;> rfl

theorem sum' {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add]

theorem sum {ι : Type*} [Fintype ι] (f : ι → ℝ) : ∑ i, (f i : EReal) = ((∑ i, f i : ℝ) : EReal) := sum' _ f

theorem abs (a : ℝ) : (FloatOps.absf (F := Ideal) (φ := .f32) (a : EReal) : EReal) = ((|a| : ℝ) : EReal) := by
  show Max.max (a : EReal) (-(a : EReal)) = _
  rw [neg, max, abs_eq_max_neg]

theorem div (a : ℝ) {b : ℝ} (h : b ≠ 0) : Ideal.div (a : EReal) (b : EReal) = ((a / b : ℝ) : EReal) := by
  rw [Ideal.div_coe h, mul, mul_one_div]

theorem sqrt {a : ℝ} (h : 0 ≤ a) : Ideal.sqrt (a : EReal) = ((Real.sqrt a : ℝ) : EReal) := by
  rw [Ideal.sqrt_coe, if_neg (not_lt.mpr h)]

theorem nat (a : ℕ) (h : a < 2 ^ 31) :
    (FloatOps.sitofp (F := Ideal) .f32 (BitVec.ofNat 32 a) : EReal) = ((a : ℝ) : EReal) := by
  show (((BitVec.ofNat 32 a).toInt : ℝ) : EReal) = _
  rw [WordArith.toInt_ofNat_small a h]; norm_num

/-- A finite extended real is the embedding of its real part. -/
theorem eq_toReal {x : EReal} (h : Max.max x (-x) < ⊤) : x = ((x.toReal : ℝ) : EReal) := by
  rw [max_lt_iff] at h
  refine (EReal.coe_toReal h.1.ne ?_).symm
  rintro rfl
  simp at h

/-! ## Constants -/

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem three : Ideal.ofBits .f32 0x40400000#32 = ((3 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem nine : Ideal.ofBits .f32 0x41100000#32 = ((9 : ℝ) : EReal) := by
  simp [Ideal.ofBits, Ideal.ieee, -EReal.coe_mul]; norm_num
theorem fiftyfive : Ideal.ofBits .f32 0x425C0000#32 = ((55 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num
theorem negone : Ideal.ofBits .f32 0xBF800000#32 = ((-1 : ℝ) : EReal) := by
  simp [Ideal.ofBits, Ideal.ieee, -EReal.coe_mul, -EReal.coe_neg]; norm_num
theorem negtwo : Ideal.ofBits .f32 0xC0000000#32 = ((-2 : ℝ) : EReal) := by
  simp [Ideal.ofBits, Ideal.ieee, -EReal.coe_mul, -EReal.coe_neg]; norm_num
theorem neghalf : Ideal.ofBits .f32 0xBF000000#32 = ((-(1 / 2) : ℝ) : EReal) := by
  simp [Ideal.ofBits, Ideal.ieee, -EReal.coe_mul, -EReal.coe_neg]; norm_num
theorem last28 : Ideal.ofBits .f32 0x41DC0000#32 = ((55 / 2 : ℝ) : EReal) := by
  simp [Ideal.ofBits, Ideal.ieee, -EReal.coe_mul, -EReal.coe_neg]; norm_num
theorem last14 : Ideal.ofBits .f32 0x41580000#32 = ((27 / 2 : ℝ) : EReal) := by
  simp [Ideal.ofBits, Ideal.ieee, -EReal.coe_mul, -EReal.coe_neg]; norm_num
/-- The least total weight of a sample that counts, 0.00011920929. -/
theorem least : Ideal.ofBits .f32 0x38FA0000#32 = ((8192000 / 68719476736 : ℝ) : EReal) := by
  simp [Ideal.ofBits, Ideal.ieee, -EReal.coe_mul, -EReal.coe_neg]; norm_num
theorem inf : Ideal.ofBits .f32 0x7F800000#32 = ⊤ := by simp [Ideal.ofBits, Ideal.ieee]
theorem neginf : Ideal.ofBits .f32 0xFF800000#32 = ⊥ := by simp [Ideal.ofBits, Ideal.ieee]

/-- The least squared distance, a positive number. -/
def eps : ℝ := 9223372 / 9223372036854775808

theorem eps_pos : 0 < eps := by unfold eps; norm_num

theorem ofBits_eps : Ideal.ofBits .f32 0x2B8CBCCC#32 = (eps : EReal) := by
  unfold eps
  simp [Ideal.ofBits, Ideal.ieee, -EReal.coe_mul, -EReal.coe_neg]; norm_num

end Cert.Reals

end
-- ==== Proof.Finite.lean ====
/- What the precondition says: every argument is an array of real numbers. -/
module

public import proofs.«01_k».proof.Defs
public import proofs.«01_k».proof.Proof.Reals
public import Idealize.ShloMosaic.Lib.Pointwise

@[expose] public section

noncomputable section

namespace Cert.Pre_finite_arguments

open Idealize.ShloMosaic Idealize.ShloMosaic.StableHlo

theorem facts : Facts := ⟨by decide, by decide, by decide, by decide, by decide, by decide⟩

/-- An array whose entries have magnitudes below infinity is an array of real numbers. -/
theorem real {S : Shape} (x : FVec Ideal S .f32) (hb : S_.BroadcastsInDim S (![] : Fin 0 → Fin S.rank))
    (h : cmpf .olt (Host.absf x) (broadcastInDim S ![] hb (constant S_ .f32 0x7F800000#32)) = fun _ => 1#1) (i : S.Idx) :
    (x i : EReal) = (((x i : EReal).toReal : ℝ) : EReal) := by
  have e : Ideal.cmp .olt (max (x i : EReal) (-(x i : EReal))) (Ideal.ofBits .f32 0x7F800000#32) = 1#1 := congrFun h i
  refine Reals.eq_toReal ?_
  rw [Reals.inf] at e
  by_contra hn
  simp [Ideal.cmp, hn] at e

end Cert.Pre_finite_arguments

end
-- ==== Proof.Model.lean ====
/- The mathematics of the problem over the real numbers.

   A position's descriptor is a linear map of three average-pooled maps, two of them enlarged, and two coordinates. The
   program under proof pools and enlarges after the linear map, and takes everything times minus two; the lemmas here
   say that this is the same descriptor. -/
module

public import Idealize.ShloMosaic.PureOps.Ideal

@[expose] public section

noncomputable section

namespace Cert.Model

/-! ## Sums -/

/-- A sum over `a + b` numbers is the sum of the first `a` and of the other `b`. -/
theorem sum_split {M : Type*} [AddCommMonoid M] {n : ℕ} (a b : ℕ) (h : a + b = n) (f : Fin n → M) :
    ∑ i, f i = ∑ i : Fin a, f ⟨i, by omega⟩ + ∑ i : Fin b, f ⟨a + i, by omega⟩ := by
  subst h
  exact Fin.sum_univ_add f

/-- A sum over `m * n` numbers is the sum over quotient and remainder by `n`. -/
theorem sum_grid {M : Type*} [AddCommMonoid M] {N : ℕ} (m n : ℕ) (h : m * n = N) (f : Fin N → M) :
    ∑ i, f i = ∑ a : Fin m, ∑ b : Fin n, f ⟨n * a + b, by
      subst h; have := a.2; have := b.2
      calc n * a.1 + b.1 < n * a.1 + n := by omega
        _ = (a.1 + 1) * n := by ring
        _ ≤ m * n := Nat.mul_le_mul_right _ (by omega)⟩ := by
  subst h
  rw [← Fintype.sum_prod_type', ← Equiv.sum_comp finProdFinEquiv]
  refine Finset.sum_congr rfl fun x _ => congrArg f (Fin.ext ?_)
  simp [finProdFinEquiv, add_comm]

/-- Three sums in the opposite order. -/
theorem sum_comm3 {A B C : Type*} [Fintype A] [Fintype B] [Fintype C] (t : A → B → C → ℝ) :
    ∑ a, ∑ b, ∑ c, t a b c = ∑ c, ∑ b, ∑ a, t a b c := by
  rw [Finset.sum_comm]
  rw [Finset.sum_congr rfl fun b _ => Finset.sum_comm]
  rw [Finset.sum_comm]

/-- Two pairs of sums exchanged. -/
theorem sum_comm4 {A B C D : Type*} [Fintype A] [Fintype B] [Fintype C] [Fintype D] (t : A → B → C → D → ℝ) :
    ∑ a, ∑ b, ∑ c, ∑ d, t a b c d = ∑ d, ∑ c, ∑ a, ∑ b, t a b c d := by
  rw [Finset.sum_congr rfl fun a _ => sum_comm3 (t a)]
  rw [Finset.sum_comm]
  refine Finset.sum_congr rfl fun d _ => ?_
  rw [Finset.sum_comm]

/-! ## The average over three by three -/

/-- One when two places are equal or neighbours, else zero. -/
def nb (i a : ℕ) : ℝ := if i ≤ a + 1 ∧ a ≤ i + 1 then 1 else 0

/-- The sum over a place and its neighbours. -/
theorem nb_sum {n : ℕ} (f : Fin n → ℝ) (i : Fin n) :
    ∑ b : Fin n, nb i b * f b = f i + (if h : i.1 + 1 < n then f ⟨i.1 + 1, h⟩ else 0) + (if 0 < i.1 then f ⟨i.1 - 1, by omega⟩ else 0) := by
  have e : ∀ b : Fin n, nb i b * f b = (if b = i then f b else 0) + (if b.1 = i.1 + 1 then f b else 0) + (if b.1 + 1 = i.1 then f b else 0) := by
    intro b
    unfold nb
    by_cases h1 : b = i
    · subst h1; simp
    · have h1' : b.1 ≠ i.1 := fun h => h1 (Fin.ext h)
      by_cases h2 : b.1 = i.1 + 1
      · rw [if_pos (by omega), if_neg h1, if_pos h2, if_neg (by omega)]; ring
      · by_cases h3 : b.1 + 1 = i.1
        · rw [if_pos (by omega), if_neg h1, if_neg h2, if_pos h3]; ring
        · rw [if_neg (by omega), if_neg h1, if_neg h2, if_neg h3]; ring
  rw [Finset.sum_congr rfl fun b _ => e b, Finset.sum_add_distrib, Finset.sum_add_distrib]
  congr 1
  · congr 1
    · simp
    · split
      · rename_i h
        rw [Finset.sum_eq_single ⟨i.1 + 1, h⟩]
        · simp
        · intro b _ hb; rw [if_neg]; intro hh; exact hb (Fin.ext hh)
        · simp
      · rename_i h
        refine Finset.sum_eq_zero fun b _ => ?_
        rw [if_neg]; have := b.2; omega
  · split
    · rename_i h
      rw [Finset.sum_eq_single ⟨i.1 - 1, by omega⟩]
      · rw [if_pos]; show i.1 - 1 + 1 = i.1; omega
      · intro b _ hb; rw [if_neg]; intro hh; exact hb (Fin.ext (by show b.1 = i.1 - 1; omega))
      · simp
    · refine Finset.sum_eq_zero fun b _ => ?_
      rw [if_neg]; omega

/-- The sum over three by three places. -/
def box {n : ℕ} (f : Fin n → Fin n → ℝ) (i j : ℕ) : ℝ := ∑ a : Fin n, ∑ b : Fin n, nb i a * nb j b * f a b

/-- The window sum of a combination is the combination of the window sums. -/
theorem box_lin {n : ℕ} {C : Type*} [Fintype C] (k : C → ℝ) (f : C → Fin n → Fin n → ℝ) (i j : ℕ) :
    box (fun a b => ∑ c, k c * f c a b) i j = ∑ c, k c * box (f c) i j := by
  unfold box
  simp only [Finset.mul_sum]
  rw [sum_comm3, Finset.sum_congr rfl fun c _ => Finset.sum_comm]
  refine Finset.sum_congr rfl fun c _ => Finset.sum_congr rfl fun a _ => Finset.sum_congr rfl fun b _ => by ring

/-- The window sum, along one axis and then along the other. -/
theorem box_sep {n : ℕ} (f : Fin n → Fin n → ℝ) (i j : ℕ) :
    box f i j = ∑ a : Fin n, nb i a * ∑ b : Fin n, nb j b * f a b := by
  unfold box
  refine Finset.sum_congr rfl fun a _ => ?_
  rw [Finset.mul_sum]
  exact Finset.sum_congr rfl fun b _ => by ring

/-! ## Enlarging -/

/-- The weight, before normalising, of place `i` in sample `h` of an enlargement by `r`. -/
def tri (r : ℝ) (h i : ℕ) : ℝ := max 0 (1 - |((h : ℝ) + 1 / 2) / r - 1 / 2 - (i : ℝ)|)

/-- The total weight of a sample. -/
def tot (n : ℕ) (r : ℝ) (h : ℕ) : ℝ := ∑ i : Fin n, tri r h i

/-- The weight of place `i` in sample `h`. -/
def wgt (n : ℕ) (r : ℝ) (h i : ℕ) : ℝ := tri r h i / tot n r h

theorem tri_nonneg (r : ℝ) (h i : ℕ) : 0 ≤ tri r h i := le_max_left _ _

/-- A sample within half a step of some place has at least half the weight. -/
theorem half_le_tot {n : ℕ} {r : ℝ} {h : ℕ} (i : Fin n) (hi : |((h : ℝ) + 1 / 2) / r - 1 / 2 - (i : ℝ)| ≤ 1 / 2) :
    1 / 2 ≤ tot n r h := by
  have h1 : 1 / 2 ≤ tri r h i := le_trans (by linarith) (le_max_right _ _)
  exact le_trans h1 (Finset.single_le_sum (f := fun i : Fin n => tri r h i) (fun j _ => tri_nonneg r h j) (Finset.mem_univ i))

theorem half_le_tot2 (h : Fin 56) : 1 / 2 ≤ tot 28 2 h := by
  refine half_le_tot ⟨h.1 / 2, by omega⟩ ?_
  show |((h.1 : ℝ) + 1 / 2) / 2 - 1 / 2 - ((h.1 / 2 : ℕ) : ℝ)| ≤ 1 / 2
  have e : (h.1 : ℝ) = 2 * ((h.1 / 2 : ℕ) : ℝ) + ((h.1 % 2 : ℕ) : ℝ) := by
    have := Nat.div_add_mod h.1 2
    exact_mod_cast this.symm
  have l : ((h.1 % 2 : ℕ) : ℝ) ≤ 1 := by exact_mod_cast (by omega : h.1 % 2 ≤ 1)
  have g : (0 : ℝ) ≤ ((h.1 % 2 : ℕ) : ℝ) := Nat.cast_nonneg _
  rw [abs_le]; constructor <;> linarith

theorem half_le_tot4 (h : Fin 56) : 1 / 2 ≤ tot 14 4 h := by
  refine half_le_tot ⟨h.1 / 4, by omega⟩ ?_
  show |((h.1 : ℝ) + 1 / 2) / 4 - 1 / 2 - ((h.1 / 4 : ℕ) : ℝ)| ≤ 1 / 2
  have e : (h.1 : ℝ) = 4 * ((h.1 / 4 : ℕ) : ℝ) + ((h.1 % 4 : ℕ) : ℝ) := by
    have := Nat.div_add_mod h.1 4
    exact_mod_cast this.symm
  have l : ((h.1 % 4 : ℕ) : ℝ) ≤ 3 := by exact_mod_cast (by omega : h.1 % 4 ≤ 3)
  have g : (0 : ℝ) ≤ ((h.1 % 4 : ℕ) : ℝ) := Nat.cast_nonneg _
  rw [abs_le]; constructor <;> linarith

/-- Averaging and then enlarging, a map at two places: rows first, then columns. -/
def enl {n : ℕ} (r : ℝ) (f : Fin n → Fin n → ℝ) (h w : ℕ) : ℝ :=
  ∑ l : Fin n, (∑ k : Fin n, box f k l / 9 * wgt n r h k) * wgt n r w l

/-- Averaging and enlarging along one axis, in one step. -/
def mix (n : ℕ) (r : ℝ) (h a : ℕ) : ℝ := ∑ k : Fin n, wgt n r h k * (nb k a / 3)

/-- The two steps are one bilinear map. -/
theorem enl_eq {n : ℕ} (r : ℝ) (f : Fin n → Fin n → ℝ) (h w : ℕ) :
    ∑ a : Fin n, ∑ b : Fin n, f a b * (mix n r h a * mix n r w b) = enl r f h w := by
  have e1 : ∀ a b : Fin n, f a b * (mix n r h a * mix n r w b)
      = ∑ k : Fin n, ∑ l : Fin n, nb k a * nb l b * f a b / 9 * wgt n r h k * wgt n r w l := by
    intro a b
    unfold mix
    rw [Finset.sum_mul_sum, Finset.mul_sum]
    refine Finset.sum_congr rfl fun k _ => ?_
    rw [Finset.mul_sum]
    exact Finset.sum_congr rfl fun l _ => by ring
  rw [Finset.sum_congr rfl fun a _ => Finset.sum_congr rfl fun b _ => e1 a b, sum_comm4]
  unfold enl box
  refine Finset.sum_congr rfl fun l _ => ?_
  rw [Finset.sum_mul]
  refine Finset.sum_congr rfl fun k _ => ?_
  simp only [Finset.sum_div, Finset.sum_mul]

/-- Mixing channels and enlarging in one step, times minus two. -/
theorem mixed {n N : ℕ} (hN : n * n = N) {C : Type*} [Fintype C] (r : ℝ) (k : C → ℝ) (f : C → Fin n → Fin n → ℝ) (h w : ℕ) :
    ∑ a : Fin n, ∑ b : Fin n, (∑ c, k c * f c a b) * (-2 * (mix n r h a * mix n r w b)) = -2 * ∑ c, k c * enl r (f c) h w := by
  have e : ∀ a b : Fin n, (∑ c, k c * f c a b) * (-2 * (mix n r h a * mix n r w b))
      = ∑ c, -2 * (k c * (f c a b * (mix n r h a * mix n r w b))) := by
    intro a b
    rw [Finset.sum_mul]
    exact Finset.sum_congr rfl fun c _ => by ring
  rw [Finset.sum_congr rfl fun a _ => Finset.sum_congr rfl fun b _ => e a b, sum_comm3, Finset.mul_sum]
  refine Finset.sum_congr rfl fun c _ => ?_
  rw [Finset.sum_comm, ← enl_eq]
  simp only [Finset.mul_sum]

/-! ## The descriptor and the distances -/

/-- The coordinate of a place among 56, from minus one to one. -/
def coord (x : ℕ) : ℝ := -1 + 2 * (x : ℝ) / 55

/-- One component of the descriptor at a place. -/
def desc (W : Fin 1794 → ℝ) (b : ℝ) (p1 : Fin 256 → Fin 56 → Fin 56 → ℝ) (p2 : Fin 512 → Fin 28 → Fin 28 → ℝ)
    (p3 : Fin 1024 → Fin 14 → Fin 14 → ℝ) (h w : ℕ) : ℝ :=
  (∑ c : Fin 256, W ⟨c, by omega⟩ * (box (p1 c) h w / 9)) + (∑ c : Fin 512, W ⟨256 + c, by omega⟩ * enl 2 (p2 c) h w)
    + (∑ c : Fin 1024, W ⟨768 + c, by omega⟩ * enl 4 (p3 c) h w) + W 1792 * coord w + W 1793 * coord h + b

/-- The squared distance of a descriptor to a centre. -/
def dist (φ C : Fin 224 → ℝ) : ℝ := ∑ o, φ o * φ o + ∑ o, C o * C o - 2 * ∑ o, φ o * C o

/-- The squared distance from minus twice the descriptor. -/
theorem dist_eq (φ C : Fin 224 → ℝ) :
    (∑ o, C o * (-2 * φ o) + ∑ o, C o * C o) + (∑ o, -2 * φ o * (-2 * φ o)) * (1 / 4) = dist φ C := by
  unfold dist
  have e1 : ∑ o, C o * (-2 * φ o) = -2 * ∑ o, φ o * C o := by
    rw [Finset.mul_sum]; exact Finset.sum_congr rfl fun o _ => by ring
  have e2 : ∑ o, -2 * φ o * (-2 * φ o) = 4 * ∑ o, φ o * φ o := by
    rw [Finset.mul_sum]; exact Finset.sum_congr rfl fun o _ => by ring
  rw [e1, e2]; ring

end Cert.Model

end
-- ==== Proof.Host.lean ====
/- The arrays the program's host part prepares for the kernel, read entry by entry.

   The host part is a chain of short stretches of operations. Each stretch is read from arbitrary contents, and the chain is
   put together afterwards, so that no term holds the whole of it. -/
module

public import proofs.«01_k».proof.Proof.Gen.KernelIdeal.Frame
public import proofs.«01_k».proof.Proof.Reals
public import proofs.«01_k».proof.Proof.Model
public import Idealize.ShloMosaic.Lib.StableHlo.Run
public import Idealize.ShloMosaic.Lib.Pointwise
public import Idealize.ShloMosaic.Lib.Tactic.CleanTypes

@[expose] public section

set_option maxRecDepth 16384

noncomputable section

namespace Cert.KernelIdeal.Host

open Cert.KernelIdeal Cert.KernelIdeal.Gen Cert.KernelIdeal.Facts Cert.Model Idealize.ShloMosaic Idealize.ShloMosaic.TcCoe Idealize.SL.Sem Idealize.ShloMosaic.StableHlo

/-! ## The averaging and enlarging weights -/

/-- A weight before normalising. -/
theorem tri_host (h : Fin 56) {n : ℕ} (hn : n ≤ 28) (x : Fin n) {r : ℝ} (hr : r ≠ 0) :
    max 0 (1 - (FloatOps.absf (F := Ideal) (φ := .f32) (Ideal.div ((FloatOps.sitofp .f32 (BitVec.ofNat 32 h.1) : Ideal .f32) + Ideal.ofBits .f32 0x3F000000#32) (r : EReal)
        - Ideal.ofBits .f32 0x3F000000#32 - (FloatOps.sitofp .f32 (BitVec.ofNat 32 x.1) : Ideal .f32)) : EReal)) = ((tri r h x : ℝ) : EReal) := by
  rw [Reals.nat _ (by omega), Reals.nat _ (by omega), Reals.half, Reals.add, Reals.div _ hr, Reals.sub, Reals.sub, Reals.abs, Reals.one, Reals.sub,
    Reals.zero, Reals.max]
  rfl

/-- Two places are neighbours when their numbers differ by at most one. -/
theorem near_word : ∀ x a : Fin 28, IntOp.cmpi .sle (IntOp.absi (IntOp.subi (BitVec.ofNat 32 x.1) (BitVec.ofNat 32 a.1))) 1#32
    = if x.1 ≤ a.1 + 1 ∧ a.1 ≤ x.1 + 1 then 1#1 else 0#1 := by decide +kernel

theorem near_host {n : ℕ} (hn : n ≤ 28) (x a : Fin n) :
    Ideal.div (FloatOps.uitofp .f32 (IntOp.cmpi .sle (IntOp.absi (IntOp.subi (BitVec.ofNat 32 x.1) (BitVec.ofNat 32 a.1))) 1#32) : Ideal .f32)
      (Ideal.ofBits .f32 0x40400000#32) = ((nb x a / 3 : ℝ) : EReal) := by
  have e := near_word ⟨x.1, by omega⟩ ⟨a.1, by omega⟩
  have u : (FloatOps.uitofp .f32 (IntOp.cmpi .sle (IntOp.absi (IntOp.subi (BitVec.ofNat 32 x.1) (BitVec.ofNat 32 a.1))) 1#32) : Ideal .f32) = ((nb x a : ℝ) : EReal) := by
    show (((IntOp.cmpi .sle (IntOp.absi (IntOp.subi (BitVec.ofNat 32 x.1) (BitVec.ofNat 32 a.1))) 1#32).toNat : ℝ) : EReal) = _
    rw [e, nb]
    by_cases h : x.1 ≤ a.1 + 1 ∧ a.1 ≤ x.1 + 1
    · rw [if_pos h, if_pos h]; simp
    · rw [if_neg h, if_neg h]; simp
  rw [u, Reals.three, Reals.div _ (by norm_num)]

section
variable (V0 : Valuation τ sig (Elt Ideal))

theorem v45 (h : Fin 56) (a : Fin 28) : (after hostOps0 V0 main_v45 : FVec Ideal S56x28 .f32) (ix2 h a) = ((mix 28 2 h a : ℝ) : EReal) := by
  unfold hostOps0; after_results_simp; clean_types; pointwise
  have t : (∑ x : Fin 28, ((tri 2 h x : ℝ) : EReal)) = ((tot 28 2 h : ℝ) : EReal) := Reals.sum _
  have ht : tot 28 2 h ≠ 0 := by have := half_le_tot2 h; linarith
  simp only [Reals.two, fun x : Fin 28 => tri_host h le_rfl x (two_ne_zero (α := ℝ)), fun x : Fin 28 => near_host le_rfl x a, t, Reals.div _ ht, Reals.mul, Reals.sum]
  rfl

theorem v87 (h : Fin 56) (a : Fin 14) : (after hostOps0 V0 main_v87 : FVec Ideal S56x14 .f32) (ix2 h a) = ((mix 14 4 h a : ℝ) : EReal) := by
  unfold hostOps0; after_results_simp; clean_types; pointwise
  have t : (∑ x : Fin 14, ((tri 4 h x : ℝ) : EReal)) = ((tot 14 4 h : ℝ) : EReal) := Reals.sum _
  have ht : tot 14 4 h ≠ 0 := by have := half_le_tot4 h; linarith
  simp only [Reals.four, fun x : Fin 14 => tri_host h (by norm_num : 14 ≤ 28) x (four_ne_zero (α := ℝ)), fun x : Fin 14 => near_host (by norm_num : 14 ≤ 28) x a, t, Reals.div _ ht, Reals.mul, Reals.sum]
  rfl

/-! ## The products of the weights along the two axes -/

theorem v88 (q : Fin 3136) (a : Fin 784) : (after hostOps0_1 V0 main_v88 : FVec Ideal S3136x784 .f32) (ix2 q a)
    = (fun u v : EReal => u * v) ((V0 main_v45 : FVec Ideal S56x28 .f32) (ix2 ⟨q.1 / 56, by omega⟩ ⟨a.1 / 28, by omega⟩))
      ((V0 main_v45 : FVec Ideal S56x28 .f32) (ix2 ⟨q.1 % 56, by omega⟩ ⟨a.1 % 28, by omega⟩)) := by
  unfold hostOps0_1
  simp only [TRef.binary, TRef.unary, TRef.reshape, TRef.ternary, TRef.nullary, TRef.toBuf, TRef.ofBuf, cast_eq]
  after_results_simp; clean_types; pointwise

theorem v90 (q : Fin 3136) (a : Fin 196) : (after hostOps0_3 V0 main_v90 : FVec Ideal S3136x196 .f32) (ix2 q a)
    = (fun u v : EReal => u * v) ((V0 main_v87 : FVec Ideal S56x14 .f32) (ix2 ⟨q.1 / 56, by omega⟩ ⟨a.1 / 14, by omega⟩))
      ((V0 main_v87 : FVec Ideal S56x14 .f32) (ix2 ⟨q.1 % 56, by omega⟩ ⟨a.1 % 14, by omega⟩)) := by
  unfold hostOps0_3
  simp only [TRef.binary, TRef.unary, TRef.reshape, TRef.ternary, TRef.nullary, TRef.toBuf, TRef.ofBuf, cast_eq]
  after_results_simp; clean_types; pointwise

theorem v89 (q : Fin 3136) (a : Fin 784) : (after hostOps0_2 V0 main_v89 : FVec Ideal S784x3136 .f32) (ix2 a q) = (V0 main_v88 : FVec Ideal S3136x784 .f32) (ix2 q a) := by
  unfold hostOps0_2; after_results_simp; clean_types; pointwise

theorem v91 (q : Fin 3136) (a : Fin 196) : (after hostOps0_4 V0 main_v91 : FVec Ideal S196x3136 .f32) (ix2 a q) = (V0 main_v90 : FVec Ideal S3136x196 .f32) (ix2 q a) := by
  unfold hostOps0_4; after_results_simp; clean_types; pointwise

/-! ## The coordinates -/

theorem v92 (q : Fin 3136) : (after hostOps0_4 V0 main_v92 : IVec S3136 32) (ix1 q) = BitVec.ofNat 32 q.1 := by
  unfold hostOps0_4; after_results_simp; clean_types; pointwise

theorem c16 : (after hostOps0_4 V0 main_c_16 : IVec S_ 32) ix0 = 56#32 := by
  unfold hostOps0_4; after_results_simp; clean_types; pointwise

theorem c20 : (after hostOps0_6 V0 main_c_20 : IVec S_ 32) ix0 = 56#32 := by
  unfold hostOps0_6; after_results_simp; clean_types; pointwise

theorem v93 (q : Fin 3136) (e : (V0 main_v92 : IVec S3136 32) (ix1 q) = BitVec.ofNat 32 q.1) (e' : (V0 main_c_16 : IVec S_ 32) ix0 = 56#32) :
    (after hostOps0_5 V0 main_v93 : IVec S3136 32) (ix1 q) = BitVec.ofNat 32 (q.1 % 56) := by
  unfold hostOps0_5
  simp only [TRef.binary, TRef.unary, TRef.reshape, TRef.ternary, TRef.nullary, TRef.toBuf, TRef.ofBuf, cast_eq]
  after_results_simp; clean_types; pointwise
  simp only [e, e', id]
  clear e e'
  revert q
  decide +kernel

theorem v102 (q : Fin 3136) (e : (V0 main_v92 : IVec S3136 32) (ix1 q) = BitVec.ofNat 32 q.1) (e' : (V0 main_c_20 : IVec S_ 32) ix0 = 56#32) :
    (after hostOps0_7 V0 main_v102 : IVec S3136 32) (ix1 q) = BitVec.ofNat 32 (q.1 / 56) := by
  unfold hostOps0_7
  simp only [TRef.binary, TRef.unary, TRef.reshape, TRef.ternary, TRef.nullary, TRef.toBuf, TRef.ofBuf, cast_eq]
  after_results_simp; clean_types; pointwise
  simp only [e, e', id]
  clear e e'
  revert q
  decide +kernel

/-- A coordinate, computed. -/
theorem coord_host (x : ℕ) (hx : x < 2 ^ 31) : Ideal.ofBits .f32 0xBF800000#32
    + Ideal.div (Ideal.ofBits .f32 0x40000000#32 * (FloatOps.sitofp .f32 (BitVec.ofNat 32 x) : Ideal .f32)) (Ideal.ofBits .f32 0x425C0000#32) = ((coord x : ℝ) : EReal) := by
  rw [Reals.nat _ hx, Reals.negone, Reals.two, Reals.fiftyfive, Reals.mul, Reals.div _ (by norm_num), Reals.add]
  rfl

theorem v101 (q : Fin 3136) (x : ℕ) (hx : x < 2 ^ 31) (e : (V0 main_v93 : IVec S3136 32) (ix1 q) = BitVec.ofNat 32 x) :
    (after hostOps0_6 V0 main_v101 : FVec Ideal S1x3136 .f32) (ix2 0 q) = ((coord x : ℝ) : EReal) := by
  unfold hostOps0_6; after_results_simp; clean_types; pointwise
  rw [e]
  exact coord_host x hx

theorem v114 (a : Fin 983) (q : Fin 3136) : ((after hostOps0_8 V0 main_v114 : FVec Ideal S983x3136 .f32) (ix2 a q) : EReal)
    = (fun u v : EReal => u * v) (Ideal.ofBits .f32 0xC0000000#32)
      (if h : a.1 < 784 then (V0 main_v89 : FVec Ideal S784x3136 .f32) (ix2 ⟨a.1, h⟩ q)
       else if h : a.1 - 784 < 196 then (V0 main_v91 : FVec Ideal S196x3136 .f32) (ix2 ⟨a.1 - 784, h⟩ q)
       else if h : a.1 - 784 - 196 < 1 then (V0 main_v101 : FVec Ideal S1x3136 .f32) (ix2 ⟨a.1 - 784 - 196, h⟩ q)
       else if h : a.1 - 784 - 196 - 1 < 1 then Ideal.ofBits .f32 0xBF800000#32
          + Ideal.div (Ideal.ofBits .f32 0x40000000#32 * (FloatOps.sitofp .f32 ((V0 main_v102 : IVec S3136 32) (ix1 q)) : Ideal .f32)) (Ideal.ofBits .f32 0x425C0000#32)
       else 1) := by
  unfold hostOps0_8; after_results_simp; clean_types; pointwise; after_results_simp; pointwise

/-- The table's five parts, each minus twice what is put there. -/
theorem v114_a (i : Fin 784) (q : Fin 3136) (x : ℝ) (e : (V0 main_v89 : FVec Ideal S784x3136 .f32) (ix2 i q) = (x : EReal)) :
    ((after hostOps0_8 V0 main_v114 : FVec Ideal S983x3136 .f32) (ix2 ⟨i.1, by omega⟩ q) : EReal) = ((-2 * x : ℝ) : EReal) :=
  (v114 V0 _ q).trans ((congrArg₂ (fun u v : EReal => u * v) Reals.negtwo ((dif_pos i.2).trans e)).trans (Reals.mul _ _))

theorem v114_b (i : Fin 196) (q : Fin 3136) (x : ℝ) (e : (V0 main_v91 : FVec Ideal S196x3136 .f32) (ix2 i q) = (x : EReal)) :
    ((after hostOps0_8 V0 main_v114 : FVec Ideal S983x3136 .f32) (ix2 ⟨784 + i.1, by omega⟩ q) : EReal) = ((-2 * x : ℝ) : EReal) := by
  have h : (⟨784 + i.1 - 784, by omega⟩ : Fin 196) = i := Fin.ext (by show 784 + i.1 - 784 = i.1; omega)
  rw [← h] at e
  exact (v114 V0 _ q).trans ((congrArg₂ (fun u v : EReal => u * v) Reals.negtwo ((dif_neg (show ¬ 784 + i.1 < 784 by omega)).trans
    ((dif_pos (show 784 + i.1 - 784 < 196 by omega)).trans e))).trans (Reals.mul _ _))

theorem v114_c (q : Fin 3136) (x : ℝ) (e : (V0 main_v101 : FVec Ideal S1x3136 .f32) (ix2 0 q) = (x : EReal)) :
    ((after hostOps0_8 V0 main_v114 : FVec Ideal S983x3136 .f32) (ix2 980 q) : EReal) = ((-2 * x : ℝ) : EReal) :=
  (v114 V0 _ q).trans ((congrArg₂ (fun u v : EReal => u * v) Reals.negtwo ((dif_neg (show ¬ (980 : Fin 983).1 < 784 by decide)).trans
    ((dif_neg (show ¬ (980 : Fin 983).1 - 784 < 196 by decide)).trans ((dif_pos (show (980 : Fin 983).1 - 784 - 196 < 1 by decide)).trans e)))).trans (Reals.mul _ _))

theorem v114_d (q : Fin 3136) (x : ℕ) (hx : x < 2 ^ 31) (e : (V0 main_v102 : IVec S3136 32) (ix1 q) = BitVec.ofNat 32 x) :
    ((after hostOps0_8 V0 main_v114 : FVec Ideal S983x3136 .f32) (ix2 981 q) : EReal) = ((-2 * coord x : ℝ) : EReal) := by
  have c := coord_host x hx
  rw [← e] at c
  exact (v114 V0 _ q).trans ((congrArg₂ (fun u v : EReal => u * v) Reals.negtwo ((dif_neg (show ¬ (981 : Fin 983).1 < 784 by decide)).trans
    ((dif_neg (show ¬ (981 : Fin 983).1 - 784 < 196 by decide)).trans ((dif_neg (show ¬ (981 : Fin 983).1 - 784 - 196 < 1 by decide)).trans
      ((dif_pos (show (981 : Fin 983).1 - 784 - 196 - 1 < 1 by decide)).trans c))))).trans (Reals.mul _ _))

theorem v114_e (q : Fin 3136) : ((after hostOps0_8 V0 main_v114 : FVec Ideal S983x3136 .f32) (ix2 982 q) : EReal) = ((-2 : ℝ) : EReal) :=
  (v114 V0 _ q).trans ((congrArg₂ (fun u v : EReal => u * v) Reals.negtwo ((dif_neg (show ¬ (982 : Fin 983).1 < 784 by decide)).trans
    ((dif_neg (show ¬ (982 : Fin 983).1 - 784 < 196 by decide)).trans ((dif_neg (show ¬ (982 : Fin 983).1 - 784 - 196 < 1 by decide)).trans
      (dif_neg (show ¬ (982 : Fin 983).1 - 784 - 196 - 1 < 1 by decide)))))).trans (mul_one _))

/-! ## What the stretches leave alone -/

theorem keep89 : (after hostOps0_7 (after hostOps0_6 (after hostOps0_5 (after hostOps0_4 (after hostOps0_3 V0)))) main_v89 : FVec Ideal S784x3136 .f32) = V0 main_v89 := by
  unfold hostOps0_7 hostOps0_6 hostOps0_5 hostOps0_4 hostOps0_3
  after_results_simp

theorem keep91 : (after hostOps0_7 (after hostOps0_6 (after hostOps0_5 V0)) main_v91 : FVec Ideal S196x3136 .f32) = V0 main_v91 := by
  unfold hostOps0_7 hostOps0_6 hostOps0_5
  after_results_simp

theorem keep101 : (after hostOps0_7 V0 main_v101 : FVec Ideal S1x3136 .f32) = V0 main_v101 := by
  unfold hostOps0_7
  after_results_simp

theorem keep92 : (after hostOps0_6 (after hostOps0_5 V0) main_v92 : IVec S3136 32) = V0 main_v92 := by
  unfold hostOps0_6 hostOps0_5
  after_results_simp

theorem keep87 : (after hostOps0_2 (after hostOps0_1 V0) main_v87 : FVec Ideal S56x14 .f32) = V0 main_v87 := by
  unfold hostOps0_2 hostOps0_1
  after_results_simp

theorem keep_arg5 : (after hostOps0_8 V0 main_arg5 : FVec Ideal S224x3136 .f32) = V0 main_arg5 := by
  unfold hostOps0_8
  after_results_simp

/-- The stretches after the first. -/
abbrev rest (V0 : Valuation τ sig (Elt Ideal)) : Valuation τ sig (Elt Ideal) :=
  after hostOps0_8 (after hostOps0_7 (after hostOps0_6 (after hostOps0_5 (after hostOps0_4 (after hostOps0_3 (after hostOps0_2 (after hostOps0_1 V0)))))))

theorem keep0 : (rest V0 main_v0 : FVec Ideal S8x256x3136 .f32) = V0 main_v0 := by
  unfold rest hostOps0_8 hostOps0_7 hostOps0_6 hostOps0_5 hostOps0_4 hostOps0_3 hostOps0_2 hostOps0_1
  after_results_simp

theorem keep1 : (rest V0 main_v1 : FVec Ideal S8x512x784 .f32) = V0 main_v1 := by
  unfold rest hostOps0_8 hostOps0_7 hostOps0_6 hostOps0_5 hostOps0_4 hostOps0_3 hostOps0_2 hostOps0_1
  after_results_simp

theorem keep2 : (rest V0 main_v2 : FVec Ideal S8x1024x196 .f32) = V0 main_v2 := by
  unfold rest hostOps0_8 hostOps0_7 hostOps0_6 hostOps0_5 hostOps0_4 hostOps0_3 hostOps0_2 hostOps0_1
  after_results_simp

theorem keep3 : (rest V0 main_v3 : FVec Ideal S224x1 .f32) = V0 main_v3 := by
  unfold rest hostOps0_8 hostOps0_7 hostOps0_6 hostOps0_5 hostOps0_4 hostOps0_3 hostOps0_2 hostOps0_1
  after_results_simp

/-! ## The reshaped arguments -/

theorem v0 (n : Fin 8) (h : Fin 256) (q : Fin 3136) : (after hostOps0 V0 main_v0 : FVec Ideal S8x256x3136 .f32) (ix3 n h q)
    = (V0 main_arg0 : FVec Ideal S8x256x56x56 .f32) (ix4 n h ⟨q.1 / 56, by omega⟩ ⟨q.1 % 56, by omega⟩) := by
  unfold hostOps0; after_results_simp; clean_types; pointwise

theorem v1 (n : Fin 8) (h : Fin 512) (q : Fin 784) : (after hostOps0 V0 main_v1 : FVec Ideal S8x512x784 .f32) (ix3 n h q)
    = (V0 main_arg1 : FVec Ideal S8x512x28x28 .f32) (ix4 n h ⟨q.1 / 28, by omega⟩ ⟨q.1 % 28, by omega⟩) := by
  unfold hostOps0; after_results_simp; clean_types; pointwise

theorem v2 (n : Fin 8) (h : Fin 1024) (q : Fin 196) : (after hostOps0 V0 main_v2 : FVec Ideal S8x1024x196 .f32) (ix3 n h q)
    = (V0 main_arg2 : FVec Ideal S8x1024x14x14 .f32) (ix4 n h ⟨q.1 / 14, by omega⟩ ⟨q.1 % 14, by omega⟩) := by
  unfold hostOps0; after_results_simp; clean_types; pointwise

theorem v3 (o : Fin 224) : (after hostOps0 V0 main_v3 : FVec Ideal S224x1 .f32) (ix2 o 0) = (V0 main_arg4 : FVec Ideal S224 .f32) (ix1 o) := by
  unfold hostOps0; after_results_simp; clean_types; pointwise

theorem v115 (o : Fin 224) (k : Fin 3136) : (after hostOps0_8 V0 main_v115 : FVec Ideal S3136x224 .f32) (ix2 k o) = (V0 main_arg5 : FVec Ideal S224x3136 .f32) (ix2 o k) := by
  unfold hostOps0_8; after_results_simp; clean_types; pointwise

/-! ## The table the kernel multiplies by -/

theorem table_a (i : Fin 784) (s : Fin 3136) : ((rest (after hostOps0 V0) main_v114 : FVec Ideal S983x3136 .f32) (ix2 ⟨i.1, by omega⟩ s) : EReal)
    = ((-2 * (mix 28 2 (s.1 / 56) (i.1 / 28) * mix 28 2 (s.1 % 56) (i.1 % 28)) : ℝ) : EReal) :=
  v114_a _ i s _ ((congrFun (keep89 _) _).trans ((v89 _ s i).trans ((v88 _ s i).trans
    ((congrArg₂ (fun u v : EReal => u * v) (v45 V0 _ _) (v45 V0 _ _)).trans (Reals.mul _ _)))))

theorem table_b (i : Fin 196) (s : Fin 3136) : ((rest (after hostOps0 V0) main_v114 : FVec Ideal S983x3136 .f32) (ix2 ⟨784 + i.1, by omega⟩ s) : EReal)
    = ((-2 * (mix 14 4 (s.1 / 56) (i.1 / 14) * mix 14 4 (s.1 % 56) (i.1 % 14)) : ℝ) : EReal) :=
  v114_b _ i s _ ((congrFun (keep91 _) _).trans ((v91 _ s i).trans ((v90 _ s i).trans
    ((congrArg₂ (fun u v : EReal => u * v) ((congrFun (keep87 _) _).trans (v87 V0 _ _)) ((congrFun (keep87 _) _).trans (v87 V0 _ _))).trans (Reals.mul _ _)))))

theorem table_c (s : Fin 3136) : ((rest (after hostOps0 V0) main_v114 : FVec Ideal S983x3136 .f32) (ix2 980 s) : EReal)
    = ((-2 * coord (s.1 % 56) : ℝ) : EReal) :=
  v114_c _ s _ ((congrFun (keep101 _) _).trans (v101 _ s (s.1 % 56) (by omega) (v93 _ s (v92 _ s) (c16 _))))

theorem table_d (s : Fin 3136) : ((rest (after hostOps0 V0) main_v114 : FVec Ideal S983x3136 .f32) (ix2 981 s) : EReal)
    = ((-2 * coord (s.1 / 56) : ℝ) : EReal) :=
  v114_d _ s _ (by omega) (v102 _ s ((congrFun (keep92 _) _).trans (v92 _ s)) (c20 _))

theorem table_e (s : Fin 3136) : ((rest (after hostOps0 V0) main_v114 : FVec Ideal S983x3136 .f32) (ix2 982 s) : EReal) = ((-2 : ℝ) : EReal) :=
  v114_e _ s

end

end Cert.KernelIdeal.Host

end
-- ==== Proof.Network.lean ====
/- The search for the three smallest distances, as one step used 98 times.

   The kernel keeps, for each of 32 rows, the three smallest values seen so far, and puts in 32 new rows at a time. The
   printed body writes the 98 insertions out one after another, cut into parts in the middle of an insertion. Here the
   insertion is stated once, and each part is the insertions of the slices it reads. -/
module

public import proofs.«01_k».proof.Proof.Gen.KernelIdeal.Frame

@[expose] public section

noncomputable section

namespace Cert.KernelIdeal.Net

open Cert.KernelIdeal Cert.KernelIdeal.Gen Cert.KernelIdeal.Facts Idealize.ShloMosaic

variable {F : FTy → Type} [FloatOps F] [Named F] [Cert.KernelIdeal.Facts]

/-- 32 rows of 3136 numbers. -/
abbrev Rows (F : FTy → Type) := FVec F S32x3136 .f32

/-- The three smallest so far, smallest first. -/
structure St (F : FTy → Type) where
  /-- the smallest -/
  a1 : Rows F
  /-- the second smallest -/
  a2 : Rows F
  /-- the third smallest -/
  a3 : Rows F

/-- An insertion begun: the smallest is renewed, and what it pushed out has still to go in. -/
structure Half (F : FTy → Type) where
  /-- the second smallest, not yet renewed -/
  a2 : Rows F
  /-- the third smallest, not yet renewed -/
  a3 : Rows F
  /-- what has still to go in -/
  t : Rows F
  /-- the smallest, renewed -/
  a1 : Rows F

/-- Begin an insertion. -/
def start (s : St F) (v : Rows F) : Half F := ⟨s.a2, s.a3, maximumf s.a1 v, minimumf s.a1 v⟩

/-- End an insertion. -/
def finish (h : Half F) : St F := ⟨h.a1, minimumf h.a2 h.t, minimumf h.a3 (maximumf h.a2 h.t)⟩

/-- One insertion. -/
def ins (s : St F) (v : Rows F) : St F := finish (start s v)

/-- The slice of 32 rows number `k` lies inside a chunk of 512. -/
theorem slices_of (k : Fin 16) : S512x3136.Slices ![32 * k.val, 0] S32x3136 := by
  revert k; decide

/-- The slice of 32 rows number `k` of a chunk. -/
def sl (X : FVec F S512x3136 .f32) (k : Fin 16) : Rows F := extractStridedSlice S32x3136 ![32 * k.val, 0] X (slices_of k)

/-- The slice of 32 rows number `k` lies inside the last chunk, of 64. -/
theorem slices64_of (k : Fin 2) : S64x3136.Slices ![32 * k.val, 0] S32x3136 := by
  revert k; decide

/-- The slice of 32 rows number `k` of the last chunk. -/
def sl64 (X : FVec F S64x3136 .f32) (k : Fin 2) : Rows F := extractStridedSlice S32x3136 ![32 * k.val, 0] X (slices64_of k)

/-- The insertions of the slices of a chunk listed. -/
def steps (X : FVec F S512x3136 .f32) (l : List (Fin 16)) (s : St F) : St F := l.foldl (fun s k => ins s (sl X k)) s

/-- The insertions of the last chunk's two slices. -/
def steps64 (X : FVec F S64x3136 .f32) (s : St F) : St F := ins (ins s (sl64 X 0)) (sl64 X 1)

/-- Nothing seen yet. -/
def st0 : St F := ⟨k0_pay11, k0_pay11, k0_pay11⟩

/-- The products of the last 64 of the bank's vectors with the features, and those vectors' squared lengths added. -/
def last (v75 : FVec F S3136x1 .f32) (v82 v83 : FVec F S224x3136 .bf16) : FVec F S64x3136 .f32 :=
  addf (matmul dot_S224x64_S224x3136_S64x3136_0_0_1_1_n_n none
      (extractStridedSlice S224x64 ![0, 3072] v82 slices_S224x3136_o0_3072_S224x64) v83 (constant S64x3136 .f32 0x00000000#32))
    (broadcastTo S64x3136 (extractStridedSlice S64x1 ![3072, 0] v75 slices_S3136x1_o3072_0_S64x1) broadcasts_S64x1_S64x3136)

/-- The three rows of 32 one over another. -/
def stack (s : St F) : FVec F S96x3136 .f32 :=
  concatenate S96x3136 0 [⟨S32x3136, s.a1⟩, ⟨S32x3136, s.a2⟩, ⟨S32x3136, s.a3⟩]
    concatenates_S32x3136_S32x3136_S32x3136_S96x3136_d0

theorem part3 (v69 : FVec F S224x3136 .f32) (v70 : Vec F S224x3136 .f32) (v72 : FVec F S3136x224 .f32) :
    (⟨k0_pay38 v69 v70 v72, k0_pay39 v69 v70 v72, k0_pay41 v69 v70 v72, k0_pay42 v69 v70 v72⟩ : Half F)
      = start (steps (k0_pay14 v69 v70 v72) [0, 1, 2, 3, 4, 5] st0) (sl (k0_pay14 v69 v70 v72) 6) := rfl

theorem part4 (v88 : FVec F S512x3136 .f32) (v123 v124 v126 v127 : Rows F) :
    (⟨k0_pay78 v88 v127, k0_pay79 v88 v123 v126 v127, k0_pay80 v88 v123 v124 v126 v127⟩ : St F)
      = steps v88 [7, 8, 9, 10, 11, 12, 13, 14, 15] (finish ⟨v123, v124, v126, v127⟩) := rfl

theorem part5 (v75 : FVec F S3136x1 .f32) (v181 v183 v184 : Rows F) (v186 : FVec F S512x3136 .f32) :
    (⟨k0_pay118 v75 v181 v183 v186, k0_pay119 v75 v181 v183 v184 v186, k0_pay121 v75 v181 v186, k0_pay122 v75 v181 v186⟩ : Half F)
      = start (steps (k0_pay82 v75 v186) [0, 1, 2, 3, 4, 5, 6, 7, 8] ⟨v181, v183, v184⟩) (sl (k0_pay82 v75 v186) 9) := rfl

theorem part6 (v75 : FVec F S3136x1 .f32) (v82 v83 : FVec F S224x3136 .bf16) (v189 : FVec F S512x3136 .f32)
    (v242 v243 v245 v246 : Rows F) :
    (⟨k0_pay156 v75 v82 v83 v189 v242 v245 v246, k0_pay157 v75 v82 v83 v189 v242 v243 v245 v246,
        k0_pay159 v75 v82 v83 v189 v246, k0_pay160 v75 v82 v83 v189 v246⟩ : Half F)
      = start (steps (k0_pay148 v75 v82 v83) [0, 1]
          (steps v189 [10, 11, 12, 13, 14, 15] (finish ⟨v242, v243, v245, v246⟩))) (sl (k0_pay148 v75 v82 v83) 2) := rfl

theorem part7 (v290 : FVec F S512x3136 .f32) (v301 v302 v304 v305 : Rows F) :
    (⟨k0_pay197 v290 v301 v304 v305, k0_pay198 v290 v301 v302 v304 v305, k0_pay200 v290 v305, k0_pay201 v290 v305⟩ : Half F)
      = start (steps v290 [3, 4, 5, 6, 7, 8, 9, 10, 11] (finish ⟨v301, v302, v304, v305⟩)) (sl v290 12) := rfl

theorem part8 (v75 : FVec F S3136x1 .f32) (v82 v83 : FVec F S224x3136 .bf16) (v290 : FVec F S512x3136 .f32)
    (v361 v362 v364 v365 : Rows F) :
    (⟨k0_pay235 v75 v82 v83 v290 v361 v364 v365, k0_pay236 v75 v82 v83 v290 v361 v362 v364 v365,
        k0_pay238 v75 v82 v83 v290 v365, k0_pay239 v75 v82 v83 v290 v365⟩ : Half F)
      = start (steps (k0_pay215 v75 v82 v83) [0, 1, 2, 3, 4]
          (steps v290 [13, 14, 15] (finish ⟨v361, v362, v364, v365⟩))) (sl (k0_pay215 v75 v82 v83) 5) := rfl

theorem part9 (v391 : FVec F S512x3136 .f32) (v420 v421 v423 v424 : Rows F) :
    (⟨k0_pay276 v391 v420 v423 v424, k0_pay277 v391 v420 v421 v423 v424, k0_pay279 v391 v424, k0_pay280 v391 v424⟩ : Half F)
      = start (steps v391 [6, 7, 8, 9, 10, 11, 12, 13, 14] (finish ⟨v420, v421, v423, v424⟩)) (sl v391 15) := rfl

theorem part10 (v75 : FVec F S3136x1 .f32) (v82 v83 : FVec F S224x3136 .bf16) (v480 v481 v483 v484 : Rows F) :
    (⟨k0_pay314 v75 v82 v83 v480 v483 v484, k0_pay315 v75 v82 v83 v480 v481 v483 v484, k0_pay317 v75 v82 v83 v484,
        k0_pay318 v75 v82 v83 v484⟩ : Half F)
      = start (steps (k0_pay282 v75 v82 v83) [0, 1, 2, 3, 4, 5, 6, 7] (finish ⟨v480, v481, v483, v484⟩))
          (sl (k0_pay282 v75 v82 v83) 8) := rfl

theorem part11 (v75 : FVec F S3136x1 .f32) (v82 v83 : FVec F S224x3136 .bf16) (v492 : FVec F S512x3136 .f32)
    (v539 v540 v542 v543 : Rows F) :
    (⟨k0_pay352 v75 v82 v83 v492 v539 v542 v543, k0_pay353 v75 v82 v83 v492 v539 v540 v542 v543,
        k0_pay355 v75 v82 v83 v492 v543, k0_pay356 v75 v82 v83 v492 v543⟩ : Half F)
      = start (steps (k0_pay348 v75 v82 v83) [0]
          (steps v492 [9, 10, 11, 12, 13, 14, 15] (finish ⟨v539, v540, v542, v543⟩))) (sl (k0_pay348 v75 v82 v83) 1) := rfl

theorem part12 (v593 : FVec F S512x3136 .f32) (v598 v599 v601 v602 : Rows F) :
    (⟨k0_pay393 v593 v598 v601 v602, k0_pay394 v593 v598 v599 v601 v602, k0_pay396 v593 v602, k0_pay397 v593 v602⟩ : Half F)
      = start (steps v593 [2, 3, 4, 5, 6, 7, 8, 9, 10] (finish ⟨v598, v599, v601, v602⟩)) (sl v593 11) := rfl

theorem part13 (v75 : FVec F S3136x1 .f32) (v82 v83 : FVec F S224x3136 .bf16) (v593 : FVec F S512x3136 .f32)
    (v658 v659 v661 v662 : Rows F) :
    k0_pay398 v75 v82 v83 v593 v658 v659 v661 v662
      = stack (steps64 (last v75 v82 v83) (steps v593 [12, 13, 14, 15] (finish ⟨v658, v659, v661, v662⟩))) := rfl

/-- The slices of a chunk of 512, in order. -/
def all : List (Fin 16) := [0, 1, 2, 3, 4, 5, 6, 7, 8, 9, 10, 11, 12, 13, 14, 15]

/-- The whole search: six chunks of 512 and one of 64. -/
def search (X0 X1 X2 X3 X4 X5 : FVec F S512x3136 .f32) (X6 : FVec F S64x3136 .f32) : St F :=
  steps64 X6 (steps X5 all (steps X4 all (steps X3 all (steps X2 all (steps X1 all (steps X0 all st0))))))

/-- Insertions cut in the middle of one are the insertions of the whole list. -/
theorem steps_join {A : FVec F S512x3136 .f32} {s : St F} {l1 l2 l : List (Fin 16)} {k : Fin 16} (h : l1 ++ k :: l2 = l) :
    steps A l2 (finish (start (steps A l1 s) (sl A k))) = steps A l s := by
  subst h
  simp only [steps, List.foldl_append, List.foldl_cons, ins]

section whole

variable (x0 : Vec F S1x256x3136 .f32) (x1 : Vec F S1x512x784 .f32) (x2 : Vec F S1x1024x196 .f32) (x3 : Vec F S224x1794 .f32)
    (x4 : Vec F S224x1 .f32) (x5 : Vec F S983x3136 .f32) (x6 : Vec F S224x3136 .f32) (x7 : Vec F S3136x224 .f32)

/-- What the third part leaves. -/
def half3 : Half F := ⟨k0_pay408 x0 x1 x2 x3 x4 x5 x6 x7, k0_pay39 (k0_pay402 x0 x1 x2 x3 x4 x5 x6 x7) (View.ld x6 r0_10) (k0_pay403 x0 x1 x2 x3 x4 x5 x6 x7), k0_pay409 x0 x1 x2 x3 x4 x5 x6 x7, k0_pay410 x0 x1 x2 x3 x4 x5 x6 x7⟩
/-- What the fourth part leaves. -/
def full4 : St F := ⟨k0_pay411 x0 x1 x2 x3 x4 x5 x6 x7, k0_pay412 x0 x1 x2 x3 x4 x5 x6 x7,
  k0_pay80 (k0_pay407 x0 x1 x2 x3 x4 x5 x6 x7) (k0_pay408 x0 x1 x2 x3 x4 x5 x6 x7) (half3 x0 x1 x2 x3 x4 x5 x6 x7).a3 (k0_pay409 x0 x1 x2 x3 x4 x5 x6 x7) (k0_pay410 x0 x1 x2 x3 x4 x5 x6 x7)⟩
/-- What the fifth part leaves. -/
def half5 : Half F := ⟨k0_pay415 x0 x1 x2 x3 x4 x5 x6 x7, k0_pay119 (k0_pay404 x0 x1 x2 x3 x4 x5 x6 x7) (k0_pay411 x0 x1 x2 x3 x4 x5 x6 x7) (k0_pay412 x0 x1 x2 x3 x4 x5 x6 x7) (full4 x0 x1 x2 x3 x4 x5 x6 x7).a3 (k0_pay413 x0 x1 x2 x3 x4 x5 x6 x7),
  k0_pay416 x0 x1 x2 x3 x4 x5 x6 x7, k0_pay417 x0 x1 x2 x3 x4 x5 x6 x7⟩
/-- What the sixth part leaves. -/
def half6 : Half F := ⟨k0_pay419 x0 x1 x2 x3 x4 x5 x6 x7, k0_pay157 (k0_pay404 x0 x1 x2 x3 x4 x5 x6 x7) (k0_pay405 x0 x1 x2 x3 x4 x5 x6 x7) (k0_pay406 x0 x1 x2 x3 x4 x5 x6 x7) (k0_pay414 x0 x1 x2 x3 x4 x5 x6 x7) (k0_pay415 x0 x1 x2 x3 x4 x5 x6 x7)
  (half5 x0 x1 x2 x3 x4 x5 x6 x7).a3 (k0_pay416 x0 x1 x2 x3 x4 x5 x6 x7) (k0_pay417 x0 x1 x2 x3 x4 x5 x6 x7), k0_pay420 x0 x1 x2 x3 x4 x5 x6 x7, k0_pay421 x0 x1 x2 x3 x4 x5 x6 x7⟩
/-- What the seventh part leaves. -/
def half7 : Half F := ⟨k0_pay422 x0 x1 x2 x3 x4 x5 x6 x7, k0_pay198 (k0_pay418 x0 x1 x2 x3 x4 x5 x6 x7) (k0_pay419 x0 x1 x2 x3 x4 x5 x6 x7) (half6 x0 x1 x2 x3 x4 x5 x6 x7).a3 (k0_pay420 x0 x1 x2 x3 x4 x5 x6 x7) (k0_pay421 x0 x1 x2 x3 x4 x5 x6 x7),
  k0_pay423 x0 x1 x2 x3 x4 x5 x6 x7, k0_pay424 x0 x1 x2 x3 x4 x5 x6 x7⟩
/-- What the eighth part leaves. -/
def half8 : Half F := ⟨k0_pay426 x0 x1 x2 x3 x4 x5 x6 x7, k0_pay236 (k0_pay404 x0 x1 x2 x3 x4 x5 x6 x7) (k0_pay405 x0 x1 x2 x3 x4 x5 x6 x7) (k0_pay406 x0 x1 x2 x3 x4 x5 x6 x7) (k0_pay418 x0 x1 x2 x3 x4 x5 x6 x7) (k0_pay422 x0 x1 x2 x3 x4 x5 x6 x7)
  (half7 x0 x1 x2 x3 x4 x5 x6 x7).a3 (k0_pay423 x0 x1 x2 x3 x4 x5 x6 x7) (k0_pay424 x0 x1 x2 x3 x4 x5 x6 x7), k0_pay427 x0 x1 x2 x3 x4 x5 x6 x7, k0_pay428 x0 x1 x2 x3 x4 x5 x6 x7⟩
/-- What the ninth part leaves. -/
def half9 : Half F := ⟨k0_pay429 x0 x1 x2 x3 x4 x5 x6 x7, k0_pay277 (k0_pay425 x0 x1 x2 x3 x4 x5 x6 x7) (k0_pay426 x0 x1 x2 x3 x4 x5 x6 x7) (half8 x0 x1 x2 x3 x4 x5 x6 x7).a3 (k0_pay427 x0 x1 x2 x3 x4 x5 x6 x7) (k0_pay428 x0 x1 x2 x3 x4 x5 x6 x7),
  k0_pay430 x0 x1 x2 x3 x4 x5 x6 x7, k0_pay431 x0 x1 x2 x3 x4 x5 x6 x7⟩
/-- What the tenth part leaves. -/
def half10 : Half F := ⟨k0_pay433 x0 x1 x2 x3 x4 x5 x6 x7, k0_pay315 (k0_pay404 x0 x1 x2 x3 x4 x5 x6 x7) (k0_pay405 x0 x1 x2 x3 x4 x5 x6 x7) (k0_pay406 x0 x1 x2 x3 x4 x5 x6 x7) (k0_pay429 x0 x1 x2 x3 x4 x5 x6 x7) (half9 x0 x1 x2 x3 x4 x5 x6 x7).a3
  (k0_pay430 x0 x1 x2 x3 x4 x5 x6 x7) (k0_pay431 x0 x1 x2 x3 x4 x5 x6 x7), k0_pay434 x0 x1 x2 x3 x4 x5 x6 x7, k0_pay435 x0 x1 x2 x3 x4 x5 x6 x7⟩
/-- What the eleventh part leaves. -/
def half11 : Half F := ⟨k0_pay437 x0 x1 x2 x3 x4 x5 x6 x7, k0_pay353 (k0_pay404 x0 x1 x2 x3 x4 x5 x6 x7) (k0_pay405 x0 x1 x2 x3 x4 x5 x6 x7) (k0_pay406 x0 x1 x2 x3 x4 x5 x6 x7) (k0_pay432 x0 x1 x2 x3 x4 x5 x6 x7) (k0_pay433 x0 x1 x2 x3 x4 x5 x6 x7)
  (half10 x0 x1 x2 x3 x4 x5 x6 x7).a3 (k0_pay434 x0 x1 x2 x3 x4 x5 x6 x7) (k0_pay435 x0 x1 x2 x3 x4 x5 x6 x7), k0_pay438 x0 x1 x2 x3 x4 x5 x6 x7, k0_pay439 x0 x1 x2 x3 x4 x5 x6 x7⟩
/-- What the twelfth part leaves. -/
def half12 : Half F := ⟨k0_pay440 x0 x1 x2 x3 x4 x5 x6 x7, k0_pay394 (k0_pay436 x0 x1 x2 x3 x4 x5 x6 x7) (k0_pay437 x0 x1 x2 x3 x4 x5 x6 x7) (half11 x0 x1 x2 x3 x4 x5 x6 x7).a3 (k0_pay438 x0 x1 x2 x3 x4 x5 x6 x7) (k0_pay439 x0 x1 x2 x3 x4 x5 x6 x7),
  k0_pay442 x0 x1 x2 x3 x4 x5 x6 x7, k0_pay443 x0 x1 x2 x3 x4 x5 x6 x7⟩

theorem half3_eq : half3 x0 x1 x2 x3 x4 x5 x6 x7 = start (steps (k0_pay407 x0 x1 x2 x3 x4 x5 x6 x7) [0, 1, 2, 3, 4, 5] st0) (sl (k0_pay407 x0 x1 x2 x3 x4 x5 x6 x7) 6) := part3 _ _ _

theorem full4_eq : full4 x0 x1 x2 x3 x4 x5 x6 x7 = steps (k0_pay407 x0 x1 x2 x3 x4 x5 x6 x7) all st0 := by
  have e : full4 x0 x1 x2 x3 x4 x5 x6 x7 = steps (k0_pay407 x0 x1 x2 x3 x4 x5 x6 x7) [7, 8, 9, 10, 11, 12, 13, 14, 15] (finish (half3 x0 x1 x2 x3 x4 x5 x6 x7)) := part4 _ _ _ _ _
  rw [e, half3_eq, steps_join (l := all) (by rfl)]

theorem half5_eq : half5 x0 x1 x2 x3 x4 x5 x6 x7 = start (steps (k0_pay414 x0 x1 x2 x3 x4 x5 x6 x7) [0, 1, 2, 3, 4, 5, 6, 7, 8] (steps (k0_pay407 x0 x1 x2 x3 x4 x5 x6 x7) all st0))
    (sl (k0_pay414 x0 x1 x2 x3 x4 x5 x6 x7) 9) := by
  have e : half5 x0 x1 x2 x3 x4 x5 x6 x7 = start (steps (k0_pay414 x0 x1 x2 x3 x4 x5 x6 x7) [0, 1, 2, 3, 4, 5, 6, 7, 8] (full4 x0 x1 x2 x3 x4 x5 x6 x7)) (sl (k0_pay414 x0 x1 x2 x3 x4 x5 x6 x7) 9) := part5 _ _ _ _ _
  rw [e, full4_eq]

theorem half6_eq : half6 x0 x1 x2 x3 x4 x5 x6 x7 = start (steps (k0_pay418 x0 x1 x2 x3 x4 x5 x6 x7) [0, 1] (steps (k0_pay414 x0 x1 x2 x3 x4 x5 x6 x7) all (steps (k0_pay407 x0 x1 x2 x3 x4 x5 x6 x7) all st0)))
    (sl (k0_pay418 x0 x1 x2 x3 x4 x5 x6 x7) 2) := by
  have e : half6 x0 x1 x2 x3 x4 x5 x6 x7 = start (steps (k0_pay418 x0 x1 x2 x3 x4 x5 x6 x7) [0, 1] (steps (k0_pay414 x0 x1 x2 x3 x4 x5 x6 x7) [10, 11, 12, 13, 14, 15] (finish (half5 x0 x1 x2 x3 x4 x5 x6 x7))))
      (sl (k0_pay418 x0 x1 x2 x3 x4 x5 x6 x7) 2) := part6 _ _ _ _ _ _ _ _
  rw [e, half5_eq, steps_join (l := all) (by rfl)]

theorem half7_eq : half7 x0 x1 x2 x3 x4 x5 x6 x7 = start (steps (k0_pay418 x0 x1 x2 x3 x4 x5 x6 x7) [0, 1, 2, 3, 4, 5, 6, 7, 8, 9, 10, 11] (steps (k0_pay414 x0 x1 x2 x3 x4 x5 x6 x7) all (steps (k0_pay407 x0 x1 x2 x3 x4 x5 x6 x7) all st0)))
    (sl (k0_pay418 x0 x1 x2 x3 x4 x5 x6 x7) 12) := by
  have e : half7 x0 x1 x2 x3 x4 x5 x6 x7 = start (steps (k0_pay418 x0 x1 x2 x3 x4 x5 x6 x7) [3, 4, 5, 6, 7, 8, 9, 10, 11] (finish (half6 x0 x1 x2 x3 x4 x5 x6 x7))) (sl (k0_pay418 x0 x1 x2 x3 x4 x5 x6 x7) 12) :=
    part7 _ _ _ _ _
  rw [e, half6_eq, steps_join (l := [0, 1, 2, 3, 4, 5, 6, 7, 8, 9, 10, 11]) (by rfl)]

theorem half8_eq : half8 x0 x1 x2 x3 x4 x5 x6 x7 = start (steps (k0_pay425 x0 x1 x2 x3 x4 x5 x6 x7) [0, 1, 2, 3, 4] (steps (k0_pay418 x0 x1 x2 x3 x4 x5 x6 x7) all (steps (k0_pay414 x0 x1 x2 x3 x4 x5 x6 x7) all (steps (k0_pay407 x0 x1 x2 x3 x4 x5 x6 x7) all st0))))
    (sl (k0_pay425 x0 x1 x2 x3 x4 x5 x6 x7) 5) := by
  have e : half8 x0 x1 x2 x3 x4 x5 x6 x7 = start (steps (k0_pay425 x0 x1 x2 x3 x4 x5 x6 x7) [0, 1, 2, 3, 4] (steps (k0_pay418 x0 x1 x2 x3 x4 x5 x6 x7) [13, 14, 15] (finish (half7 x0 x1 x2 x3 x4 x5 x6 x7))))
      (sl (k0_pay425 x0 x1 x2 x3 x4 x5 x6 x7) 5) := part8 _ _ _ _ _ _ _ _
  rw [e, half7_eq, steps_join (l := all) (by rfl)]

theorem half9_eq : half9 x0 x1 x2 x3 x4 x5 x6 x7 = start (steps (k0_pay425 x0 x1 x2 x3 x4 x5 x6 x7) [0, 1, 2, 3, 4, 5, 6, 7, 8, 9, 10, 11, 12, 13, 14] (steps (k0_pay418 x0 x1 x2 x3 x4 x5 x6 x7) all (steps (k0_pay414 x0 x1 x2 x3 x4 x5 x6 x7) all (steps (k0_pay407 x0 x1 x2 x3 x4 x5 x6 x7) all st0))))
    (sl (k0_pay425 x0 x1 x2 x3 x4 x5 x6 x7) 15) := by
  have e : half9 x0 x1 x2 x3 x4 x5 x6 x7 = start (steps (k0_pay425 x0 x1 x2 x3 x4 x5 x6 x7) [6, 7, 8, 9, 10, 11, 12, 13, 14] (finish (half8 x0 x1 x2 x3 x4 x5 x6 x7))) (sl (k0_pay425 x0 x1 x2 x3 x4 x5 x6 x7) 15) :=
    part9 _ _ _ _ _
  rw [e, half8_eq, steps_join (l := [0, 1, 2, 3, 4, 5, 6, 7, 8, 9, 10, 11, 12, 13, 14]) (by rfl)]

theorem half10_eq : half10 x0 x1 x2 x3 x4 x5 x6 x7 = start (steps (k0_pay432 x0 x1 x2 x3 x4 x5 x6 x7) [0, 1, 2, 3, 4, 5, 6, 7] (steps (k0_pay425 x0 x1 x2 x3 x4 x5 x6 x7) all (steps (k0_pay418 x0 x1 x2 x3 x4 x5 x6 x7) all (steps (k0_pay414 x0 x1 x2 x3 x4 x5 x6 x7) all (steps (k0_pay407 x0 x1 x2 x3 x4 x5 x6 x7) all st0)))))
    (sl (k0_pay432 x0 x1 x2 x3 x4 x5 x6 x7) 8) := by
  have e : half10 x0 x1 x2 x3 x4 x5 x6 x7 = start (steps (k0_pay432 x0 x1 x2 x3 x4 x5 x6 x7) [0, 1, 2, 3, 4, 5, 6, 7] (steps (k0_pay425 x0 x1 x2 x3 x4 x5 x6 x7) [] (finish (half9 x0 x1 x2 x3 x4 x5 x6 x7))))
      (sl (k0_pay432 x0 x1 x2 x3 x4 x5 x6 x7) 8) := part10 _ _ _ _ _ _ _
  rw [e, half9_eq, steps_join (l := all) (by rfl)]

theorem half11_eq : half11 x0 x1 x2 x3 x4 x5 x6 x7 = start (steps (k0_pay436 x0 x1 x2 x3 x4 x5 x6 x7) [0] (steps (k0_pay432 x0 x1 x2 x3 x4 x5 x6 x7) all (steps (k0_pay425 x0 x1 x2 x3 x4 x5 x6 x7) all (steps (k0_pay418 x0 x1 x2 x3 x4 x5 x6 x7) all (steps (k0_pay414 x0 x1 x2 x3 x4 x5 x6 x7) all (steps (k0_pay407 x0 x1 x2 x3 x4 x5 x6 x7) all st0))))))
    (sl (k0_pay436 x0 x1 x2 x3 x4 x5 x6 x7) 1) := by
  have e : half11 x0 x1 x2 x3 x4 x5 x6 x7 = start (steps (k0_pay436 x0 x1 x2 x3 x4 x5 x6 x7) [0] (steps (k0_pay432 x0 x1 x2 x3 x4 x5 x6 x7) [9, 10, 11, 12, 13, 14, 15] (finish (half10 x0 x1 x2 x3 x4 x5 x6 x7))))
      (sl (k0_pay436 x0 x1 x2 x3 x4 x5 x6 x7) 1) := part11 _ _ _ _ _ _ _ _
  rw [e, half10_eq, steps_join (l := all) (by rfl)]

theorem half12_eq : half12 x0 x1 x2 x3 x4 x5 x6 x7 = start (steps (k0_pay436 x0 x1 x2 x3 x4 x5 x6 x7) [0, 1, 2, 3, 4, 5, 6, 7, 8, 9, 10] (steps (k0_pay432 x0 x1 x2 x3 x4 x5 x6 x7) all (steps (k0_pay425 x0 x1 x2 x3 x4 x5 x6 x7) all (steps (k0_pay418 x0 x1 x2 x3 x4 x5 x6 x7) all (steps (k0_pay414 x0 x1 x2 x3 x4 x5 x6 x7) all (steps (k0_pay407 x0 x1 x2 x3 x4 x5 x6 x7) all st0))))))
    (sl (k0_pay436 x0 x1 x2 x3 x4 x5 x6 x7) 11) := by
  have e : half12 x0 x1 x2 x3 x4 x5 x6 x7 = start (steps (k0_pay436 x0 x1 x2 x3 x4 x5 x6 x7) [2, 3, 4, 5, 6, 7, 8, 9, 10] (finish (half11 x0 x1 x2 x3 x4 x5 x6 x7))) (sl (k0_pay436 x0 x1 x2 x3 x4 x5 x6 x7) 11) :=
    part12 _ _ _ _ _
  rw [e, half11_eq, steps_join (l := [0, 1, 2, 3, 4, 5, 6, 7, 8, 9, 10]) (by rfl)]

/-- What the body hands to the last part is the search over the seven chunks. -/
theorem found :
    k0_pay398 (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7) (k0_pay443 x0 x1 x2 x3 x4 x5 x6 x7)
      = stack (search (k0_pay407 x0 x1 x2 x3 x4 x5 x6 x7) (k0_pay414 x0 x1 x2 x3 x4 x5 x6 x7) (k0_pay418 x0 x1 x2 x3 x4 x5 x6 x7) (k0_pay425 x0 x1 x2 x3 x4 x5 x6 x7) (k0_pay432 x0 x1 x2 x3 x4 x5 x6 x7) (k0_pay436 x0 x1 x2 x3 x4 x5 x6 x7)
          (last (k0_pay404 x0 x1 x2 x3 x4 x5 x6 x7) (k0_pay405 x0 x1 x2 x3 x4 x5 x6 x7) (k0_pay406 x0 x1 x2 x3 x4 x5 x6 x7))) := by
  have e : k0_pay398 (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7)
      (k0_pay443 x0 x1 x2 x3 x4 x5 x6 x7) = stack (steps64 (last (k0_pay404 x0 x1 x2 x3 x4 x5 x6 x7) (k0_pay405 x0 x1 x2 x3 x4 x5 x6 x7) (k0_pay406 x0 x1 x2 x3 x4 x5 x6 x7)) (steps (k0_pay436 x0 x1 x2 x3 x4 x5 x6 x7) [12, 13, 14, 15]
        (finish (half12 x0 x1 x2 x3 x4 x5 x6 x7)))) := part13 _ _ _ _ _ _ _ _
  rw [e, half12_eq, steps_join (l := all) (by rfl), search]

end whole

end Cert.KernelIdeal.Net

end
-- ==== Proof.Top3.lean ====
/- The three smallest of a finite family, told by counting.

   A predicate on extended reals is called low when it passes from a number to every smaller one and fails at `⊤`.
   Three numbers are the three smallest of a family when, for every low predicate, the `k`-th of them satisfies it exactly
   when at least `k` members of the family do. An insertion, the gathering of several searches and the removal of a
   smallest member are read in these terms, and no order of the family is ever spoken of. -/
module

public import Idealize.ShloMosaic.PureOps.Ideal

@[expose] public section

noncomputable section

namespace Cert.Top3

open Classical

/-- A predicate that passes to smaller numbers and fails at `⊤`. -/
structure Low (P : EReal → Prop) : Prop where
  /-- it passes to smaller numbers -/
  down : ∀ {x y : EReal}, x ≤ y → P y → P x
  /-- it fails at `⊤` -/
  top : ¬ P ⊤

theorem Low.min_iff {P : EReal → Prop} (h : Low P) (a b : EReal) : P (min a b) ↔ P a ∨ P b := by
  rcases le_total a b with hab | hab
  · rw [min_eq_left hab]; exact ⟨Or.inl, fun q => q.elim id (h.down hab)⟩
  · rw [min_eq_right hab]; exact ⟨Or.inr, fun q => q.elim (h.down hab) id⟩

theorem Low.max_iff {P : EReal → Prop} (h : Low P) (a b : EReal) : P (max a b) ↔ P a ∧ P b := by
  rcases le_total a b with hab | hab
  · rw [max_eq_right hab]; exact ⟨fun q => ⟨h.down hab q, q⟩, fun q => q.2⟩
  · rw [max_eq_left hab]; exact ⟨fun q => ⟨q, h.down hab q⟩, fun q => q.1⟩

/-- One when the predicate holds, else zero. -/
def one (p : Prop) : ℕ := if p then 1 else 0

/-- Three numbers stand at the counts of `N` members: the `k`-th satisfies `P` exactly when `k ≤ N`. -/
def At (P : EReal → Prop) (N : ℕ) (a1 a2 a3 : EReal) : Prop := (P a1 ↔ 1 ≤ N) ∧ (P a2 ↔ 2 ≤ N) ∧ (P a3 ↔ 3 ≤ N)

theorem at_top {P : EReal → Prop} (h : Low P) : At P 0 ⊤ ⊤ ⊤ := by
  simp [At, h.top]

/-- One insertion counts one more member. -/
theorem At.insert {P : EReal → Prop} (h : Low P) {N : ℕ} {a1 a2 a3 : EReal} (s : At P N a1 a2 a3) (v : EReal) :
    At P (N + one (P v)) (min a1 v) (min a2 (max a1 v)) (min a3 (max a2 (max a1 v))) := by
  obtain ⟨h1, h2, h3⟩ := s
  simp only [At, h.min_iff, h.max_iff, h1, h2, h3]
  by_cases hv : P v
  · rw [one, if_pos hv]
    simp only [hv, or_true, and_true, true_iff]
    refine ⟨?_, ?_, ?_⟩ <;> omega
  · rw [one, if_neg hv]
    simp only [hv, or_false, and_false, add_zero]
    refine ⟨?_, ?_, ?_⟩ <;> trivial

theorem At.ones {P : EReal → Prop} {N : ℕ} {a1 a2 a3 : EReal} (s : At P N a1 a2 a3) :
    one (P a1) + one (P a2) + one (P a3) = min 3 N := by
  obtain ⟨h1, h2, h3⟩ := s
  simp only [one, h1, h2, h3]
  split_ifs <;> omega

/-- Several searches gathered: counting the three of each counts the members up to three. -/
theorem sum_min_iff {ι : Type*} (s : Finset ι) (N : ι → ℕ) (k : ℕ) (hk : k ≤ 3) :
    k ≤ ∑ i ∈ s, min 3 (N i) ↔ k ≤ ∑ i ∈ s, N i := by
  constructor
  · exact fun h => h.trans (Finset.sum_le_sum fun i _ => min_le_right _ _)
  · intro h
    by_cases hb : ∃ i ∈ s, 3 ≤ N i
    · obtain ⟨i, hi, h3⟩ := hb
      calc k ≤ 3 := hk
        _ = min 3 (N i) := (min_eq_left h3).symm
        _ ≤ _ := Finset.single_le_sum (f := fun i => min 3 (N i)) (fun _ _ => Nat.zero_le _) hi
    · rw [Finset.sum_congr rfl (g := N) fun i hi => ?_]
      · exact h
      · exact min_eq_right (not_le.mp fun h3 => hb ⟨i, hi, h3⟩).le

/-- The smallest of a family of numbers satisfies a low predicate exactly when some member does. -/
theorem inf_iff {P : EReal → Prop} (h : Low P) {ι : Type*} [Fintype ι] (c : ι → EReal) :
    P (Finset.univ.fold min ⊤ c) ↔ 1 ≤ ∑ i, one (P (c i)) := by
  have key : ∀ s : Finset ι, P (s.fold min ⊤ c) ↔ 1 ≤ ∑ i ∈ s, one (P (c i)) := by
    intro s
    induction s using Finset.induction_on with
    | empty => simp [h.top]
    | insert a s ha ih =>
      rw [Finset.fold_insert ha, Finset.sum_insert ha, h.min_iff, ih]
      simp only [one]
      split_ifs <;> simp_all
  exact key _

/-- The smallest of a family is one of its members, when the family is not empty. -/
theorem inf_mem {ι : Type*} [Fintype ι] [Nonempty ι] (c : ι → EReal) : ∃ i, c i = Finset.univ.fold min ⊤ c := by
  obtain ⟨i, -, hi⟩ := Finset.exists_min_image Finset.univ c Finset.univ_nonempty
  refine ⟨i, le_antisymm ?_ ?_⟩
  · rw [Finset.le_fold_min]; exact ⟨le_top, fun j hj => hi j hj⟩
  · exact (Finset.fold_min_le (f := c) (b := ⊤) (s := Finset.univ) _).mpr (Or.inr ⟨i, Finset.mem_univ _, le_rfl⟩)

/-- A family with one smallest member replaced by `⊤` has one member fewer below. -/
theorem count_remove {P : EReal → Prop} (h : Low P) {ι : Type*} [Fintype ι] (c : ι → EReal) (i : ι)
    (hi : c i = Finset.univ.fold min ⊤ c) :
    ∑ j, one (P (if j = i then ⊤ else c j)) = ∑ j, one (P (c j)) - 1 := by
  have e : ∀ j, one (P (if j = i then ⊤ else c j)) = if j = i then 0 else one (P (c j)) := by
    intro j; split_ifs <;> simp [one, h.top]
  have t : ∑ j, one (P (c j)) = one (P (c i)) + ∑ j, (if j = i then 0 else one (P (c j))) := by
    rw [← Finset.add_sum_erase _ _ (Finset.mem_univ i)]
    congr 1
    rw [← Finset.add_sum_erase Finset.univ (fun j => if j = i then 0 else one (P (c j))) (Finset.mem_univ i)]
    simp only [if_true, zero_add]
    exact Finset.sum_congr rfl fun j hj => by rw [if_neg (Finset.ne_of_mem_erase hj)]
  rw [Finset.sum_congr rfl fun j _ => e j]
  by_cases hp : P (c i)
  · rw [t]; simp [one, hp]
  · have hz : ¬ 1 ≤ ∑ j, one (P (c j)) := by rw [← inf_iff h c, ← hi]; exact hp
    omega

/-- Three removals of the smallest give the three smallest. -/
theorem three {P : EReal → Prop} (h : Low P) {ι : Type*} [Fintype ι] (c c' c'' : ι → EReal) (i i' : ι)
    (hi : c i = Finset.univ.fold min ⊤ c) (hc' : ∀ j, c' j = if j = i then ⊤ else c j)
    (hi' : c' i' = Finset.univ.fold min ⊤ c') (hc'' : ∀ j, c'' j = if j = i' then ⊤ else c' j) :
    At P (∑ j, one (P (c j))) (Finset.univ.fold min ⊤ c) (Finset.univ.fold min ⊤ c') (Finset.univ.fold min ⊤ c'') := by
  have e1 : ∑ j, one (P (c' j)) = ∑ j, one (P (c j)) - 1 := by
    rw [← count_remove h c i hi]; exact Finset.sum_congr rfl fun j _ => by rw [hc']
  have e2 : ∑ j, one (P (c'' j)) = ∑ j, one (P (c' j)) - 1 := by
    rw [← count_remove h c' i' hi']; exact Finset.sum_congr rfl fun j _ => by rw [hc'']
  refine ⟨inf_iff h c, ?_, ?_⟩
  · rw [inf_iff h c', e1]; omega
  · rw [inf_iff h c'', e2, e1]; omega

/-- A sorted listing of a family: its `k`-th entry satisfies a low predicate exactly when more than `k` members do. -/
theorem sorted_iff {P : EReal → Prop} (h : Low P) {n : ℕ} (d : Fin n → EReal) (σ : Fin n → Fin n) (hσ : Function.Bijective σ)
    (hm : ∀ i j, i ≤ j → d (σ i) ≤ d (σ j)) (k : Fin n) : P (d (σ k)) ↔ k.val + 1 ≤ ∑ i, one (P (d i)) := by
  have e : ∑ i, one (P (d i)) = ∑ i, one (P (d (σ i))) :=
    (Function.Bijective.sum_comp hσ fun i => one (P (d i))).symm
  rw [e]
  constructor
  · intro hp
    calc k.val + 1 = (Finset.Iic k).card := (Fin.card_Iic k).symm
      _ = ∑ i ∈ Finset.Iic k, 1 := by simp
      _ = ∑ i ∈ Finset.Iic k, one (P (d (σ i))) :=
        Finset.sum_congr rfl fun i hi => (if_pos (h.down (hm i k (Finset.mem_Iic.mp hi)) hp)).symm
      _ ≤ _ := Finset.sum_le_sum_of_subset (Finset.subset_univ _)
  · intro hle
    by_contra hp
    have : ∑ i, one (P (d (σ i))) ≤ k.val := by
      calc ∑ i, one (P (d (σ i))) = ∑ i ∈ Finset.Iio k, one (P (d (σ i))) := by
            refine (Finset.sum_subset (Finset.subset_univ _) fun i _ hi => ?_).symm
            exact if_neg fun hi' => hp (h.down (hm k i (not_lt.mp fun hlt => hi (Finset.mem_Iio.mpr hlt))) hi')
        _ ≤ ∑ i ∈ Finset.Iio k, 1 := Finset.sum_le_sum fun i _ => by unfold one; split_ifs <;> simp
        _ = k.val := by simp
    omega

/-- A number is known by the numbers below `⊤` that it does not exceed. -/
theorem eq_of_le_iff {a b : EReal} (h : ∀ t, t < ⊤ → (a ≤ t ↔ b ≤ t)) : a = b := by
  apply le_antisymm
  · rcases eq_or_lt_of_le (le_top : b ≤ ⊤) with hb | hb
    · rw [hb]; exact le_top
    · exact (h b hb).mpr le_rfl
  · rcases eq_or_lt_of_le (le_top : a ≤ ⊤) with ha | ha
    · rw [ha]; exact le_top
    · exact (h a ha).mp le_rfl

/-- Being at most a number below `⊤`, after an increasing function that keeps `⊤`, is a low predicate. -/
theorem low_le {g : EReal → EReal} (hg : Monotone g) (ht : g ⊤ = ⊤) {t : EReal} (h : t < ⊤) : Low fun x => g x ≤ t where
  down hxy hy := (hg hxy).trans hy
  top hle := by rw [ht] at hle; exact absurd (lt_of_le_of_lt hle h) (lt_irrefl _)

end Cert.Top3

end
-- ==== Proof.Tail.lean ====
/- The end of the search: the three smallest of 96 candidates, and the score they give.

   The program finds the smallest candidate, the first row that attains it, puts the named constant `big` there, and looks
   again. With `big` infinite this removes one attaining row, so the three minima stand at the counts of the candidates. -/
module

public import proofs.«01_k».proof.Proof.Gen.KernelIdeal.Frame
public import proofs.«01_k».proof.Proof.Network
public import proofs.«01_k».proof.Proof.Top3
public import proofs.«01_k».proof.Proof.Reals
public import Idealize.ShloMosaic.Lib.Pointwise

@[expose] public section

set_option maxRecDepth 16384

noncomputable section

namespace Cert.KernelIdeal.Tail

open Cert.KernelIdeal Cert.KernelIdeal.Gen Cert.KernelIdeal.Facts Idealize.ShloMosaic Cert.Top3

/-- A minimum of words, read as integers. -/
theorem toInt_fold {ι : Type*} (s : Finset ι) (b : BitVec 32) (f : ι → BitVec 32) :
    (s.fold IntOp.minsi b f).toInt = s.fold min b.toInt (fun x => (f x).toInt) := by
  classical
  induction s using Finset.induction_on with
  | empty => simp
  | insert a s ha ih =>
    rw [Finset.fold_insert ha, Finset.fold_insert ha, ← ih]
    unfold IntOp.minsi
    have := @BitVec.slt_iff_toInt_lt 32
    rcases lt_trichotomy (f a).toInt (s.fold IntOp.minsi b f).toInt with h | h | h <;>
      split_ifs <;> simp_all [BitVec.slt, BitVec.sle, min_def] <;> omega

theorem toInt_row (x : Fin 96) : (BitVec.ofNat 32 x.1).toInt = (x.1 : ℤ) :=
  WordArith.toInt_ofNat_small x.1 (by omega)

/-- The mark of the first row that attains the minimum is on one row, and that row attains it. -/
theorem mark (c : Fin 96 → EReal) [inst : ∀ y, Decidable (c y = Finset.univ.fold min ⊤ c)] :
    ∃ i, c i = Finset.univ.fold min ⊤ c ∧ ∀ x : Fin 96,
      IntOp.cmpi .eq (BitVec.ofNat 32 x.1) (Finset.univ.fold IntOp.minsi 2147483647#32
        (fun y : Fin 96 => if c y = Finset.univ.fold min ⊤ c then BitVec.ofNat 32 y.1 else 96#32)) = if x = i then 1#1 else 0#1 := by
  obtain ⟨i0, h0⟩ := inf_mem c
  obtain ⟨i, hi, hmin⟩ := Finset.exists_min_image (Finset.univ.filter fun y => c y = Finset.univ.fold min ⊤ c) (fun y => y)
    ⟨i0, Finset.mem_filter.mpr ⟨Finset.mem_univ _, h0⟩⟩
  have hi' := (Finset.mem_filter.mp hi).2
  refine ⟨i, hi', fun x => ?_⟩
  have e : (Finset.univ.fold IntOp.minsi 2147483647#32
        (fun y : Fin 96 => if c y = Finset.univ.fold min ⊤ c then BitVec.ofNat 32 y.1 else 96#32)) = BitVec.ofNat 32 i.1 := by
    apply BitVec.eq_of_toInt_eq
    rw [toInt_fold, toInt_row]
    apply le_antisymm
    · refine (Finset.fold_min_le _).mpr (Or.inr ⟨i, Finset.mem_univ _, ?_⟩)
      rw [if_pos hi', toInt_row]
    · rw [Finset.le_fold_min]
      refine ⟨?_, fun y _ => ?_⟩
      · have : (2147483647#32 : BitVec 32).toInt = 2147483647 := by decide
        rw [this]; have := i.2; omega
      · split
        · rename_i hy
          rw [toInt_row]
          exact_mod_cast hmin y (Finset.mem_filter.mpr ⟨Finset.mem_univ _, hy⟩)
        · have : (96#32 : BitVec 32).toInt = 96 := by decide
          rw [this]; have := i.2; omega
  rw [e]
  unfold IntOp.cmpi
  by_cases h : x = i
  · subst h; simp
  · have : (BitVec.ofNat 32 x.1 == BitVec.ofNat 32 i.1) = false := by
      rw [beq_eq_false_iff_ne]
      intro h'
      have := congrArg BitVec.toInt h'
      rw [toInt_row, toInt_row] at this
      exact h (Fin.ext (by exact_mod_cast this))
    simp [h, this]

/-- A distance from what the search compares. -/
def far (f x : EReal) : EReal := Ideal.sqrt (max (x + f) (Ideal.ofBits .f32 0x2B8CBCCC#32))

/-- The score from the three distances. -/
def score (d1 d2 d3 : EReal) : EReal := Ideal.div d1 (1 + Ideal.exp (d1 - d2) + Ideal.exp (d1 - d3))

/-- The named constant. -/
theorem big : (Named.named κ "big" 0x7F61B1E6#32 : Ideal .f32) = (⊤ : EReal) :=
  IdealRules.named_const.ideal_named_scalar _ _ _ _ rfl

variable [Cert.KernelIdeal.Facts]

/-- The end of the body: a score of three numbers that stand at the counts of the candidates. -/
theorem tail (v80 : FVec Ideal S1x3136 .f32) (v75 : FVec Ideal S3136x1 .f32) (v82 v83 : FVec Ideal S224x3136 .bf16) (v593 : FVec Ideal S512x3136 .f32)
    (v658 v659 v661 v662 : FVec Ideal S32x3136 .f32) (q : Fin 3136) :
    ∃ m1 m2 m3 : EReal,
      (∀ P : EReal → Prop, Low P → At P (∑ j : Fin 96, one (P (k0_pay398 v75 v82 v83 v593 v658 v659 v661 v662 (ix2 j q)))) m1 m2 m3) ∧
      (k0_pay401 v80 (k0_pay398 v75 v82 v83 v593 v658 v659 v661 v662) (iota .tc S96x3136 32 [0] iota_S96x3136_d0_w32)
        (k0_pay399 v75 v82 v83 v593 v658 v659 v661 v662) (k0_pay400 v75 v82 v83 v593 v658 v659 v661 v662) (ix2 0 q) : EReal)
        = score (far (v80 (ix2 0 q)) m1) (far (v80 (ix2 0 q)) m2) (far (v80 (ix2 0 q)) m3) := by
  pointwise [k0_pay401, k0_pay400, k0_pay399]
  generalize k0_pay398 v75 v82 v83 v593 v658 v659 v661 v662 = X
  simp only [Reals.inf, big]
  obtain ⟨i, hi, hm⟩ := mark (fun j => X (ix2 j q))
  have hsel : ∀ (x i : Fin 96) (a b : EReal), Scalar.select (if x = i then 1#1 else 0#1) a b = if x = i then a else b := by
    intro x i a b
    unfold Scalar.select
    by_cases h : x = i
    · rw [if_pos h, if_pos h, if_pos (by decide)]
    · rw [if_neg h, if_neg h, if_neg (by decide)]
  simp only [hm, hsel]
  obtain ⟨i', hi', hm'⟩ := mark (fun j => if j = i then (⊤ : EReal) else X (ix2 j q))
  simp only [hm', hsel]
  exact ⟨_, _, _, fun P hP => three hP (fun j => X (ix2 j q)) (fun j => if j = i then ⊤ else X (ix2 j q))
    (fun j => if j = i' then ⊤ else if j = i then ⊤ else X (ix2 j q)) i i' hi (fun j => by congr) hi' (fun j => by congr), rfl⟩

end Cert.KernelIdeal.Tail

end
-- ==== Proof.Desc.lean ====
/- The program's descriptors: what its body computes before the search, read as real numbers. -/
module

public import proofs.«01_k».proof.Proof.Gen.KernelIdeal.Frame
public import proofs.«01_k».proof.Proof.Reals
public import proofs.«01_k».proof.Proof.Model
public import Idealize.ShloMosaic.Lib.Pointwise
public import Idealize.ShloMosaic.Lib.Tactic.CleanTypes

@[expose] public section

set_option maxRecDepth 16384

noncomputable section

namespace Cert.KernelIdeal.Desc

open Cert.KernelIdeal Cert.KernelIdeal.Gen Cert.KernelIdeal.Facts Idealize.ShloMosaic Cert.Model

variable [Cert.KernelIdeal.Facts]

theorem lane (q : Fin 3136) : (k0_pay2 (ix2 0 q) : BitVec 32) = BitVec.ofNat 32 (q.1 % 56) := by
  pointwise [k0_pay2]
  revert q
  decide +kernel

/-- The named constant. -/
theorem third : (Named.named κ "third" 0x3EAAAAAB#32 : Ideal .f32) = ((1 / 3 : ℝ) : EReal) := by
  rw [IdealRules.named_const.ideal_named_scalar _ _ _ _ rfl]

variable (Q : Fin 56 → Fin 56 → ℝ)

theorem pay3 (v17 : Vec Ideal S224x256 .f32) (v20 : Vec Ideal S1x256x3136 .f32) (W : Fin 224 → Fin 256 → ℝ) (P : Fin 256 → Fin 56 → Fin 56 → ℝ)
    (hW : ∀ o c, v17 (ix2 o c) = ((W o c : ℝ) : EReal))
    (hP : ∀ c (s : Fin 3136), v20 (ix3 0 c s) = ((P c ⟨s.1 / 56, by omega⟩ ⟨s.1 % 56, by omega⟩ : ℝ) : EReal)) (o : Fin 224) (s : Fin 3136) :
    (k0_pay3 v17 v20 (ix2 o s) : EReal) = ((∑ c, W o c * -2 * P c ⟨s.1 / 56, by omega⟩ ⟨s.1 % 56, by omega⟩ : ℝ) : EReal) := by
  pointwise [k0_pay3]
  simp only [hW, hP, Reals.negtwo, Reals.mul, Reals.sum]

/-- A choice by an equality of small words. -/
theorem sel_eq {α : Type} (m k : ℕ) (hm : m < 2 ^ 32) (hk : k < 2 ^ 32) (a b : α) :
    Scalar.select (IntOp.cmpi .eq (BitVec.ofNat 32 m) (BitVec.ofNat 32 k)) a b = if m = k then a else b := by
  unfold Scalar.select IntOp.cmpi
  by_cases h : m = k
  · subst h; simp
  · have : BitVec.ofNat 32 m ≠ BitVec.ofNat 32 k := by
      intro e
      have e2 := congrArg BitVec.toNat e
      rw [BitVec.toNat_ofNat, BitVec.toNat_ofNat, Nat.mod_eq_of_lt hm, Nat.mod_eq_of_lt hk] at e2
      exact h e2
    have e : (BitVec.ofNat 32 m == BitVec.ofNat 32 k) = false := by simpa using this
    simp [h, e]

theorem at_eq {n : ℕ} (f : Fin n → Fin n → ℝ) {a a' b b' : ℕ} {ha : a < n} {hb : b < n} {ha' : a' < n} {hb' : b' < n} (e : a = a') (e' : b = b') :
    f ⟨a, ha⟩ ⟨b, hb⟩ = f ⟨a', ha'⟩ ⟨b', hb'⟩ := by
  subst e; subst e'; rfl

/-- A row of the linear map, summed over three neighbours in a row of the image. -/
theorem row (v17 : Vec Ideal S224x256 .f32) (v20 : Vec Ideal S1x256x3136 .f32) (o : Fin 224)
    (h : ∀ s : Fin 3136, (k0_pay3 v17 v20 (ix2 o s) : EReal) = ((Q ⟨s.1 / 56, by omega⟩ ⟨s.1 % 56, by omega⟩ : ℝ) : EReal)) (s : Fin 3136) :
    (addf (k0_pay6 v17 v20) (k0_pay5 v17 v20) : FVec Ideal S224x3136 .f32) (ix2 o s) = ((∑ b : Fin 56, nb (s.1 % 56) b * Q ⟨s.1 / 56, by omega⟩ b : ℝ) : EReal) := by
  pointwise [k0_pay6, k0_pay5, k0_pay4]
  have hs := s.2
  simp only [h, lane, sel_eq (s.1 % 56) 55 (by omega) (by omega), sel_eq (s.1 % 56) 0 (by omega) (by omega)]
  have e := nb_sum (Q ⟨s.1 / 56, by omega⟩) ⟨s.1 % 56, by omega⟩
  rw [show (∑ b : Fin 56, nb (s.1 % 56) b * Q ⟨s.1 / 56, by omega⟩ b) = _ from e]
  have e1 : (if s.1 % 56 = 55 then (0 : EReal)
      else if h : s.1 < 3135 then ((Q ⟨(1 + s.1) / 56, by omega⟩ ⟨(1 + s.1) % 56, by omega⟩ : ℝ) : EReal) else 0)
      = ((if h : s.1 % 56 + 1 < 56 then Q ⟨s.1 / 56, by omega⟩ ⟨s.1 % 56 + 1, h⟩ else 0 : ℝ) : EReal) := by
    by_cases h1 : s.1 % 56 = 55
    · rw [if_pos h1, dif_neg (by omega)]; rfl
    · rw [if_neg h1, dif_pos (by omega), dif_pos (by omega)]
      exact congrArg _ (at_eq Q (by omega) (by omega))
  have e2 : (if s.1 % 56 = 0 then (0 : EReal)
      else if h : s.1 < 1 then 0 else ((Q ⟨(s.1 - 1) / 56, by omega⟩ ⟨(s.1 - 1) % 56, by omega⟩ : ℝ) : EReal))
      = ((if 0 < s.1 % 56 then Q ⟨s.1 / 56, by omega⟩ ⟨s.1 % 56 - 1, by omega⟩ else 0 : ℝ) : EReal) := by
    by_cases h1 : s.1 % 56 = 0
    · rw [if_pos h1, if_neg (by omega)]; rfl
    · rw [if_neg h1, dif_neg (by omega), if_pos (by omega)]
      exact congrArg _ (at_eq Q (by omega) (by omega))
  rw [e1, e2, Reals.add, Reals.add]

/-- The sum over rows of sums over columns, each times a third, is the average over three by three. -/
theorem pool (s : Fin 3136) :
    ((((∑ b : Fin 56, nb (s.1 % 56) b * Q ⟨s.1 / 56, by omega⟩ b : ℝ) : EReal) * ((1 / 3 : ℝ) : EReal) +
            if h : s.1 < 3080 then
              ((∑ b : Fin 56, nb ((56 + s.1) % 56) b * Q ⟨(56 + s.1) / 56, by omega⟩ b : ℝ) : EReal) * ((1 / 3 : ℝ) : EReal)
            else 0) +
          if h : s.1 < 56 then 0
          else ((∑ b : Fin 56, nb ((s.1 - 56) % 56) b * Q ⟨(s.1 - 56) / 56, by omega⟩ b : ℝ) : EReal) * ((1 / 3 : ℝ) : EReal)) *
        ((1 / 3 : ℝ) : EReal) = ((box Q (s.1 / 56) (s.1 % 56) / 9 : ℝ) : EReal) := by
  have hs := s.2
  rw [box_sep]
  have e := nb_sum (fun a => ∑ b : Fin 56, nb (s.1 % 56) b * Q a b) ⟨s.1 / 56, by omega⟩
  rw [show (∑ a : Fin 56, nb (s.1 / 56) a * ∑ b : Fin 56, nb (s.1 % 56) b * Q a b) = _ from e]
  have e1 : (if h : s.1 < 3080 then
              ((∑ b : Fin 56, nb ((56 + s.1) % 56) b * Q ⟨(56 + s.1) / 56, by omega⟩ b : ℝ) : EReal) * ((1 / 3 : ℝ) : EReal)
            else 0)
      = (((if h : s.1 / 56 + 1 < 56 then ∑ b : Fin 56, nb (s.1 % 56) b * Q ⟨s.1 / 56 + 1, h⟩ b else 0) * (1 / 3) : ℝ) : EReal) := by
    by_cases h1 : s.1 < 3080
    · rw [dif_pos h1, dif_pos (by omega), Reals.mul]
      refine congrArg _ (congrArg (· * _) (Finset.sum_congr rfl fun b _ => ?_))
      rw [show (56 + s.1) % 56 = s.1 % 56 by omega]
      exact congrArg (nb (s.1 % 56) b * ·) (at_eq Q (b := b.1) (b' := b.1) (hb := b.2) (hb' := b.2) (by omega) rfl)
    · rw [dif_neg h1, dif_neg (by omega), zero_mul]; rfl
  have e2 : (if h : s.1 < 56 then (0 : EReal)
          else ((∑ b : Fin 56, nb ((s.1 - 56) % 56) b * Q ⟨(s.1 - 56) / 56, by omega⟩ b : ℝ) : EReal) * ((1 / 3 : ℝ) : EReal))
      = (((if 0 < s.1 / 56 then ∑ b : Fin 56, nb (s.1 % 56) b * Q ⟨s.1 / 56 - 1, by omega⟩ b else 0) * (1 / 3) : ℝ) : EReal) := by
    by_cases h1 : s.1 < 56
    · rw [dif_pos h1, if_neg (by omega), zero_mul]; rfl
    · rw [dif_neg h1, if_pos (by omega), Reals.mul]
      refine congrArg _ (congrArg (· * _) (Finset.sum_congr rfl fun b _ => ?_))
      rw [show (s.1 - 56) % 56 = s.1 % 56 by omega]
      exact congrArg (nb (s.1 % 56) b * ·) (at_eq Q (b := b.1) (b' := b.1) (hb := b.2) (hb' := b.2) (by omega) rfl)
  rw [e1, e2]
  simp only [Reals.mul, Reals.add]
  refine congrArg _ ?_
  ring

/-- A sum over the 983 columns of the second linear map, by their five kinds. -/
theorem split5 (f : Fin 983 → EReal) :
    ∑ i, f i = ∑ i : Fin 784, f ⟨i.1, by omega⟩ + (∑ i : Fin 196, f ⟨784 + i.1, by omega⟩ + (f 980 + (f 981 + f 982))) := by
  rw [sum_split 784 199 (by norm_num) f]
  rw [sum_split 196 3 (by norm_num) (fun i : Fin 199 => f ⟨784 + i.1, by omega⟩)]
  rw [Fin.sum_univ_three]
  rw [add_assoc (f _)]
  rfl

/-- What the windows hold, as real numbers: the weights `W`, the offsets `b`, the three maps, the matrix that enlarges and
    places, and the centres. -/
structure Reads (x0 : Vec Ideal S1x256x3136 .f32) (x1 : Vec Ideal S1x512x784 .f32) (x2 : Vec Ideal S1x1024x196 .f32)
    (x3 : Vec Ideal S224x1794 .f32) (x4 : Vec Ideal S224x1 .f32) (x5 : Vec Ideal S983x3136 .f32) (x6 : Vec Ideal S224x3136 .f32)
    (x7 : Vec Ideal S3136x224 .f32) (W : Fin 224 → Fin 1794 → ℝ) (b : Fin 224 → ℝ) (p1 : Fin 256 → Fin 56 → Fin 56 → ℝ)
    (p2 : Fin 512 → Fin 28 → Fin 28 → ℝ) (p3 : Fin 1024 → Fin 14 → Fin 14 → ℝ) (C : Fin 3136 → Fin 224 → ℝ) : Prop where
  h0 : ∀ c (s : Fin 3136), x0 (ix3 0 c s) = ((p1 c ⟨s.1 / 56, by omega⟩ ⟨s.1 % 56, by omega⟩ : ℝ) : EReal)
  h1 : ∀ c (s : Fin 784), x1 (ix3 0 c s) = ((p2 c ⟨s.1 / 28, by omega⟩ ⟨s.1 % 28, by omega⟩ : ℝ) : EReal)
  h2 : ∀ c (s : Fin 196), x2 (ix3 0 c s) = ((p3 c ⟨s.1 / 14, by omega⟩ ⟨s.1 % 14, by omega⟩ : ℝ) : EReal)
  h3 : ∀ o c, x3 (ix2 o c) = ((W o c : ℝ) : EReal)
  h4 : ∀ o, x4 (ix2 o 0) = ((b o : ℝ) : EReal)
  h5a : ∀ (i : Fin 784) (s : Fin 3136), x5 (ix2 ⟨i.1, by omega⟩ s)
    = ((-2 * (mix 28 2 (s.1 / 56) (i.1 / 28) * mix 28 2 (s.1 % 56) (i.1 % 28)) : ℝ) : EReal)
  h5b : ∀ (i : Fin 196) (s : Fin 3136), x5 (ix2 ⟨784 + i.1, by omega⟩ s)
    = ((-2 * (mix 14 4 (s.1 / 56) (i.1 / 14) * mix 14 4 (s.1 % 56) (i.1 % 14)) : ℝ) : EReal)
  h5c : ∀ s : Fin 3136, x5 (ix2 980 s) = ((-2 * coord (s.1 % 56) : ℝ) : EReal)
  h5d : ∀ s : Fin 3136, x5 (ix2 981 s) = ((-2 * coord (s.1 / 56) : ℝ) : EReal)
  h5e : ∀ s : Fin 3136, x5 (ix2 982 s) = ((-2 : ℝ) : EReal)
  h6 : ∀ o k, x6 (ix2 o k) = ((C k o : ℝ) : EReal)
  h7 : ∀ k o, x7 (ix2 k o) = ((C k o : ℝ) : EReal)

section

variable {x0 : Vec Ideal S1x256x3136 .f32} {x1 : Vec Ideal S1x512x784 .f32} {x2 : Vec Ideal S1x1024x196 .f32}
  {x3 : Vec Ideal S224x1794 .f32} {x4 : Vec Ideal S224x1 .f32} {x5 : Vec Ideal S983x3136 .f32} {x6 : Vec Ideal S224x3136 .f32}
  {x7 : Vec Ideal S3136x224 .f32} {W : Fin 224 → Fin 1794 → ℝ} {b : Fin 224 → ℝ} {p1 : Fin 256 → Fin 56 → Fin 56 → ℝ}
  {p2 : Fin 512 → Fin 28 → Fin 28 → ℝ} {p3 : Fin 1024 → Fin 14 → Fin 14 → ℝ} {C : Fin 3136 → Fin 224 → ℝ}

/-- The second linear map: the two enlarged maps, the coordinates and the offset, times minus two. -/
theorem rest (R : Reads x0 x1 x2 x3 x4 x5 x6 x7 W b p1 p2 p3 C) (o : Fin 224) (s : Fin 3136) :
    ∑ x : Fin 983, (if h : x.1 < 784 then
          ∑ c : Fin 512, ((W o ⟨256 + c.1, by omega⟩ : ℝ) : EReal) * ((p2 c ⟨x.1 / 28, by omega⟩ ⟨x.1 % 28, by omega⟩ : ℝ) : EReal)
        else if h : x.1 - 784 < 196 then
          ∑ c : Fin 1024, ((W o ⟨768 + c.1, by omega⟩ : ℝ) : EReal) * ((p3 c ⟨(x.1 - 784) / 14, by omega⟩ ⟨(x.1 - 784) % 14, by omega⟩ : ℝ) : EReal)
        else if h : x.1 - 784 - 196 < 1 then ((W o ⟨1792 + (x.1 - 784 - 196), by omega⟩ : ℝ) : EReal)
        else if h : x.1 - 784 - 196 - 1 < 1 then ((W o ⟨1793 + (x.1 - 784 - 196 - 1), by omega⟩ : ℝ) : EReal)
        else x4 (ix2 o ⟨x.1 - 784 - 196 - 1 - 1, by omega⟩)) * x5 (ix2 x s)
      = ((-2 * ((∑ c : Fin 512, W o ⟨256 + c, by omega⟩ * enl 2 (p2 c) (s.1 / 56) (s.1 % 56))
        + ((∑ c : Fin 1024, W o ⟨768 + c, by omega⟩ * enl 4 (p3 c) (s.1 / 56) (s.1 % 56))
          + (W o 1792 * coord (s.1 % 56) + (W o 1793 * coord (s.1 / 56) + b o)))) : ℝ) : EReal) := by
  rw [split5]
  have a2 : ∀ i : Fin 784, (∑ c : Fin 512, ((W o ⟨256 + c.1, by omega⟩ : ℝ) : EReal) * ((p2 c ⟨i.1 / 28, by omega⟩ ⟨i.1 % 28, by omega⟩ : ℝ) : EReal))
      * x5 (ix2 ⟨i.1, by omega⟩ s) = (((∑ c : Fin 512, W o ⟨256 + c.1, by omega⟩ * p2 c ⟨i.1 / 28, by omega⟩ ⟨i.1 % 28, by omega⟩)
        * (-2 * (mix 28 2 (s.1 / 56) (i.1 / 28) * mix 28 2 (s.1 % 56) (i.1 % 28))) : ℝ) : EReal) := by
    intro i
    rw [R.h5a i s]
    simp only [Reals.mul, Reals.sum]
  have a3 : ∀ i : Fin 196, (∑ c : Fin 1024, ((W o ⟨768 + c.1, by omega⟩ : ℝ) : EReal) * ((p3 c ⟨i.1 / 14, by omega⟩ ⟨i.1 % 14, by omega⟩ : ℝ) : EReal))
      * x5 (ix2 ⟨784 + i.1, by omega⟩ s) = (((∑ c : Fin 1024, W o ⟨768 + c.1, by omega⟩ * p3 c ⟨i.1 / 14, by omega⟩ ⟨i.1 % 14, by omega⟩)
        * (-2 * (mix 14 4 (s.1 / 56) (i.1 / 14) * mix 14 4 (s.1 % 56) (i.1 % 14))) : ℝ) : EReal) := by
    intro i
    rw [R.h5b i s]
    simp only [Reals.mul, Reals.sum]
  have b2 : ∑ i : Fin 784, (∑ c : Fin 512, W o ⟨256 + c.1, by omega⟩ * p2 c ⟨i.1 / 28, by omega⟩ ⟨i.1 % 28, by omega⟩)
        * (-2 * (mix 28 2 (s.1 / 56) (i.1 / 28) * mix 28 2 (s.1 % 56) (i.1 % 28)))
      = -2 * ∑ c : Fin 512, W o ⟨256 + c, by omega⟩ * enl 2 (p2 c) (s.1 / 56) (s.1 % 56) := by
    rw [sum_grid 28 28 (by norm_num), ← mixed (n := 28) rfl]
    refine Finset.sum_congr rfl fun i _ => Finset.sum_congr rfl fun j _ => ?_
    have hi : (28 * i.1 + j.1) / 28 = i.1 := by omega
    have hj : (28 * i.1 + j.1) % 28 = j.1 := by omega
    simp only [hi, hj]
  have b3 : ∑ i : Fin 196, (∑ c : Fin 1024, W o ⟨768 + c.1, by omega⟩ * p3 c ⟨i.1 / 14, by omega⟩ ⟨i.1 % 14, by omega⟩)
        * (-2 * (mix 14 4 (s.1 / 56) (i.1 / 14) * mix 14 4 (s.1 % 56) (i.1 % 14)))
      = -2 * ∑ c : Fin 1024, W o ⟨768 + c, by omega⟩ * enl 4 (p3 c) (s.1 / 56) (s.1 % 56) := by
    rw [sum_grid 14 14 (by norm_num), ← mixed (n := 14) rfl]
    refine Finset.sum_congr rfl fun i _ => Finset.sum_congr rfl fun j _ => ?_
    have hi : (14 * i.1 + j.1) / 14 = i.1 := by omega
    have hj : (14 * i.1 + j.1) % 14 = j.1 := by omega
    simp only [hi, hj]
  have c2 := (Finset.sum_congr rfl fun i _ => a2 i).trans (Reals.sum _)
  have c3 := (Finset.sum_congr rfl fun i _ => a3 i).trans (Reals.sum _)
  rw [b2] at c2
  rw [b3] at c3
  have d2 : ∀ i : Fin 784, i.1 < 784 := fun i => i.2
  have d3 : ∀ i : Fin 196, ¬ 784 + i.1 < 784 := fun i => by omega
  have e3 : ∀ i : Fin 196, 784 + i.1 - 784 = i.1 := fun i => by omega
  have f3 : ∀ i : Fin 196, i.1 < 196 := fun i => i.2
  simp only [d2, d3, e3, f3, dite_true, dite_false, c2, c3]
  rw [dif_neg (show ¬ (980 : Fin 983).1 < 784 by decide), dif_neg (show ¬ (980 : Fin 983).1 - 784 < 196 by decide),
    dif_pos (show (980 : Fin 983).1 - 784 - 196 < 1 by decide), dif_neg (show ¬ (981 : Fin 983).1 < 784 by decide),
    dif_neg (show ¬ (981 : Fin 983).1 - 784 < 196 by decide), dif_neg (show ¬ (981 : Fin 983).1 - 784 - 196 < 1 by decide),
    dif_pos (show (981 : Fin 983).1 - 784 - 196 - 1 < 1 by decide), dif_neg (show ¬ (982 : Fin 983).1 < 784 by decide),
    dif_neg (show ¬ (982 : Fin 983).1 - 784 < 196 by decide), dif_neg (show ¬ (982 : Fin 983).1 - 784 - 196 < 1 by decide),
    dif_neg (show ¬ (982 : Fin 983).1 - 784 - 196 - 1 < 1 by decide), R.h5c, R.h5d, R.h5e]
  have hb : x4 (ix2 o ⟨(982 : Fin 983).1 - 784 - 196 - 1 - 1, by decide⟩) = ((b o : ℝ) : EReal) := R.h4 o
  have hw1 : W o ⟨1792 + ((980 : Fin 983).1 - 784 - 196), by decide⟩ = W o 1792 := rfl
  have hw2 : W o ⟨1793 + ((981 : Fin 983).1 - 784 - 196 - 1), by decide⟩ = W o 1793 := rfl
  rw [hb, hw1, hw2]
  simp only [Reals.mul, Reals.add]
  refine congrArg _ ?_
  ring

/-- Minus twice the descriptor. -/
theorem ph2 (R : Reads x0 x1 x2 x3 x4 x5 x6 x7 W b p1 p2 p3 C) (o : Fin 224) (s : Fin 3136) :
    (k0_pay402 x0 x1 x2 x3 x4 x5 x6 x7 (ix2 o s) : EReal) = ((-2 * desc (W o) (b o) p1 p2 p3 (s.1 / 56) (s.1 % 56) : ℝ) : EReal) := by
  have hrow := row (fun a b => ∑ c : Fin 256, W o ⟨c.1, by omega⟩ * -2 * p1 c a b) (View.ld x3 r0_0) (View.ld x0 r0_1) o
    (pay3 (View.ld x3 r0_0) (View.ld x0 r0_1) (fun o c => W o ⟨c.1, by omega⟩) p1
      (by intro o c; pointwise; exact R.h3 _ _) (by intro c s; pointwise; exact R.h0 _ _) o)
  have hrow' : ∀ s : Fin 3136, (k0_pay6 (View.ld x3 r0_0) (View.ld x0 r0_1) (ix2 o s) : EReal) + (k0_pay5 (View.ld x3 r0_0) (View.ld x0 r0_1) (ix2 o s) : EReal) = _ := hrow
  unfold k0_pay402
  pointwise [k0_pay7]
  simp only [hrow', third, R.h0, R.h1, R.h2, R.h3]
  refine (congrArg₂ (· + ·) (pool (fun a b => ∑ c : Fin 256, W o ⟨c.1, by omega⟩ * -2 * p1 c a b) s) (rest R o s)).trans ?_
  rw [Reals.add]
  refine congrArg _ ?_
  have e : box (fun a b => ∑ c : Fin 256, W o ⟨c.1, by omega⟩ * -2 * p1 c a b) (s.1 / 56) (s.1 % 56)
      = -2 * ∑ c : Fin 256, W o ⟨c.1, by omega⟩ * box (p1 c) (s.1 / 56) (s.1 % 56) := by
    rw [box_lin (fun c : Fin 256 => W o ⟨c.1, by omega⟩ * -2), Finset.mul_sum]
    exact Finset.sum_congr rfl fun c _ => by ring
  rw [e]
  unfold desc
  have e2 : ∑ c : Fin 256, W o ⟨c.1, by omega⟩ * (box (p1 c) (s.1 / 56) (s.1 % 56) / 9)
      = (∑ c : Fin 256, W o ⟨c.1, by omega⟩ * box (p1 c) (s.1 / 56) (s.1 % 56)) / 9 := by
    rw [Finset.sum_div]
    exact Finset.sum_congr rfl fun c _ => by ring
  rw [e2]
  ring

/-- The squared length of a centre. -/
theorem cent' (R : Reads x0 x1 x2 x3 x4 x5 x6 x7 W b p1 p2 p3 C) (k : Fin 3136) :
    (k0_pay9 (k0_pay403 x0 x1 x2 x3 x4 x5 x6 x7) (ix2 k 0) : EReal) = ((∑ o, C k o * C k o : ℝ) : EReal) := by
  unfold k0_pay403
  pointwise [k0_pay9, k0_pay8]
  simp only [R.h7, Reals.mul, Reals.sum]

theorem cent (R : Reads x0 x1 x2 x3 x4 x5 x6 x7 W b p1 p2 p3 C) (k : Fin 3136) :
    (k0_pay404 x0 x1 x2 x3 x4 x5 x6 x7 (ix2 k 0) : EReal) = ((∑ o, C k o * C k o : ℝ) : EReal) := cent' R k

/-- The centres, as the search multiplies by them. -/
theorem code (R : Reads x0 x1 x2 x3 x4 x5 x6 x7 W b p1 p2 p3 C) (o : Fin 224) (k : Fin 3136) :
    (k0_pay405 x0 x1 x2 x3 x4 x5 x6 x7 (ix2 o k) : EReal) = ((C k o : ℝ) : EReal) := by
  unfold k0_pay405
  pointwise [k0_pay12]
  exact R.h6 o k

/-- The descriptors, as the search multiplies by them. -/
theorem word (R : Reads x0 x1 x2 x3 x4 x5 x6 x7 W b p1 p2 p3 C) (o : Fin 224) (s : Fin 3136) :
    (k0_pay406 x0 x1 x2 x3 x4 x5 x6 x7 (ix2 o s) : EReal) = ((-2 * desc (W o) (b o) p1 p2 p3 (s.1 / 56) (s.1 % 56) : ℝ) : EReal) := by
  unfold k0_pay406
  pointwise [k0_pay13]
  exact ph2 R o s

/-- The squared length of the descriptor. -/
theorem len (R : Reads x0 x1 x2 x3 x4 x5 x6 x7 W b p1 p2 p3 C) (s : Fin 3136) :
    (k0_pay10 (k0_pay402 x0 x1 x2 x3 x4 x5 x6 x7) (ix2 0 s) : EReal)
      = (((∑ o, -2 * desc (W o) (b o) p1 p2 p3 (s.1 / 56) (s.1 % 56) * (-2 * desc (W o) (b o) p1 p2 p3 (s.1 / 56) (s.1 % 56))) * (1 / 4) : ℝ) : EReal) := by
  pointwise [k0_pay10]
  simp only [ph2 R, Reals.quarter, Reals.mul, Reals.sum]

/-- What the search compares: the squared distance less the squared length of the descriptor. -/
def near (W : Fin 224 → Fin 1794 → ℝ) (b : Fin 224 → ℝ) (p1 : Fin 256 → Fin 56 → Fin 56 → ℝ)
    (p2 : Fin 512 → Fin 28 → Fin 28 → ℝ) (p3 : Fin 1024 → Fin 14 → Fin 14 → ℝ) (C : Fin 3136 → Fin 224 → ℝ) (k s : Fin 3136) : ℝ :=
  ∑ o, C k o * (-2 * desc (W o) (b o) p1 p2 p3 (s.1 / 56) (s.1 % 56)) + ∑ o, C k o * C k o

theorem chunk0 (R : Reads x0 x1 x2 x3 x4 x5 x6 x7 W b p1 p2 p3 C) (j : Fin 512) (s : Fin 3136) :
    (k0_pay407 x0 x1 x2 x3 x4 x5 x6 x7 (ix2 j s) : EReal) = ((near W b p1 p2 p3 C ⟨0 + j.1, by omega⟩ s : ℝ) : EReal) := by
  unfold k0_pay407
  pointwise [k0_pay14, k0_pay12, k0_pay13]
  simp only [cent R, cent' R, code R, word R, ph2 R, R.h6, Reals.mul, Reals.sum, Reals.add]
  rfl

theorem chunk512 (R : Reads x0 x1 x2 x3 x4 x5 x6 x7 W b p1 p2 p3 C) (j : Fin 512) (s : Fin 3136) :
    (k0_pay414 x0 x1 x2 x3 x4 x5 x6 x7 (ix2 j s) : EReal) = ((near W b p1 p2 p3 C ⟨512 + j.1, by omega⟩ s : ℝ) : EReal) := by
  unfold k0_pay414 k0_pay413
  pointwise [k0_pay82, k0_pay81]
  simp only [cent R, cent' R, code R, word R, ph2 R, R.h6, Reals.mul, Reals.sum, Reals.add]
  rfl

theorem chunk1024 (R : Reads x0 x1 x2 x3 x4 x5 x6 x7 W b p1 p2 p3 C) (j : Fin 512) (s : Fin 3136) :
    (k0_pay418 x0 x1 x2 x3 x4 x5 x6 x7 (ix2 j s) : EReal) = ((near W b p1 p2 p3 C ⟨1024 + j.1, by omega⟩ s : ℝ) : EReal) := by
  unfold k0_pay418
  pointwise [k0_pay148]
  simp only [cent R, cent' R, code R, word R, ph2 R, R.h6, Reals.mul, Reals.sum, Reals.add]
  rfl

theorem chunk1536 (R : Reads x0 x1 x2 x3 x4 x5 x6 x7 W b p1 p2 p3 C) (j : Fin 512) (s : Fin 3136) :
    (k0_pay425 x0 x1 x2 x3 x4 x5 x6 x7 (ix2 j s) : EReal) = ((near W b p1 p2 p3 C ⟨1536 + j.1, by omega⟩ s : ℝ) : EReal) := by
  unfold k0_pay425
  pointwise [k0_pay215]
  simp only [cent R, cent' R, code R, word R, ph2 R, R.h6, Reals.mul, Reals.sum, Reals.add]
  rfl

theorem chunk2048 (R : Reads x0 x1 x2 x3 x4 x5 x6 x7 W b p1 p2 p3 C) (j : Fin 512) (s : Fin 3136) :
    (k0_pay432 x0 x1 x2 x3 x4 x5 x6 x7 (ix2 j s) : EReal) = ((near W b p1 p2 p3 C ⟨2048 + j.1, by omega⟩ s : ℝ) : EReal) := by
  unfold k0_pay432
  pointwise [k0_pay282]
  simp only [cent R, cent' R, code R, word R, ph2 R, R.h6, Reals.mul, Reals.sum, Reals.add]
  rfl

theorem chunk2560 (R : Reads x0 x1 x2 x3 x4 x5 x6 x7 W b p1 p2 p3 C) (j : Fin 512) (s : Fin 3136) :
    (k0_pay436 x0 x1 x2 x3 x4 x5 x6 x7 (ix2 j s) : EReal) = ((near W b p1 p2 p3 C ⟨2560 + j.1, by omega⟩ s : ℝ) : EReal) := by
  unfold k0_pay436
  pointwise [k0_pay348]
  simp only [cent R, cent' R, code R, word R, ph2 R, R.h6, Reals.mul, Reals.sum, Reals.add]
  rfl

end

end Cert.KernelIdeal.Desc

end
-- ==== Proof.Search.lean ====
/- The search over all 3136 centres, by counting.

   The program keeps three numbers in each of 32 rows and inserts the centres 32 at a time. Whatever is counted, the three
   numbers of a row stand at the count of the members seen in that row, so the 96 numbers at the end hold as many members,
   up to three, as there are among all the centres. -/
module

public import proofs.«01_k».proof.Proof.Tail
public import proofs.«01_k».proof.Proof.Desc

@[expose] public section

set_option maxRecDepth 16384

noncomputable section

namespace Cert.KernelIdeal.Search

open Cert.KernelIdeal Cert.KernelIdeal.Gen Cert.KernelIdeal.Facts Cert.KernelIdeal.Net Idealize.ShloMosaic Cert.Top3 Cert.Model

variable [Cert.KernelIdeal.Facts]

/-- The three numbers of a row and column stand at the count `N`. -/
def Holds (P : EReal → Prop) (N : ℕ) (s : St Ideal) (r : Fin 32) (q : Fin 3136) : Prop :=
  At P N (s.a1 (ix2 r q)) (s.a2 (ix2 r q)) (s.a3 (ix2 r q))

variable {P : EReal → Prop} (h : Low P)
include h

theorem holds_st0 (r : Fin 32) (q : Fin 3136) : Holds P 0 st0 r q := by
  have e : (k0_pay11 (F := Ideal) (ix2 r q) : EReal) = ⊤ := by
    pointwise [k0_pay11]
    exact Tail.big
  unfold Holds st0
  simp only [e]
  exact at_top h

theorem holds_ins {N : ℕ} {s : St Ideal} {r : Fin 32} {q : Fin 3136} (hs : Holds P N s r q) (v : Rows Ideal) :
    Holds P (N + one (P (v (ix2 r q)))) (ins s v) r q := At.insert h hs (v (ix2 r q))

/-- The members among the rows of a chunk that come to row `r`. -/
theorem holds_steps (X : FVec Ideal S512x3136 .f32) (l : List (Fin 16)) {N : ℕ} {s : St Ideal} {r : Fin 32} {q : Fin 3136} (hs : Holds P N s r q) :
    Holds P (N + (l.map fun k => one (P (sl X k (ix2 r q)))).sum) (steps X l s) r q := by
  induction l generalizing N s with
  | nil => exact hs
  | cons k l ih =>
    have := ih (holds_ins h hs (sl X k))
    rw [List.map_cons, List.sum_cons, ← add_assoc]
    exact this

omit h in
theorem sl_at (X : FVec Ideal S512x3136 .f32) (k : Fin 16) (r : Fin 32) (q : Fin 3136) :
    (sl X k (ix2 r q) : EReal) = X (ix2 ⟨32 * k.1 + r.1, by omega⟩ q) := by
  pointwise [sl]

omit h in
theorem sl64_at (X : FVec Ideal S64x3136 .f32) (k : Fin 2) (r : Fin 32) (q : Fin 3136) :
    (sl64 X k (ix2 r q) : EReal) = X (ix2 ⟨32 * k.1 + r.1, by omega⟩ q) := by
  pointwise [sl64]

theorem holds_chunk (X : FVec Ideal S512x3136 .f32) {N : ℕ} {s : St Ideal} {r : Fin 32} {q : Fin 3136} (hs : Holds P N s r q) :
    Holds P (N + ∑ k : Fin 16, one (P (X (ix2 ⟨32 * k.1 + r.1, by omega⟩ q)))) (steps X all s) r q := by
  have := holds_steps h X all hs
  simp only [sl_at] at this
  rw [← List.sum_ofFn]
  exact this

/-- The members of a chunk, over all rows. -/
theorem chunk_rows (g : Fin 512 → ℕ) : ∑ r : Fin 32, ∑ k : Fin 16, g ⟨32 * k.1 + r.1, by omega⟩ = ∑ j, g j := by
  rw [Finset.sum_comm, sum_grid 16 32 (by norm_num) g]

theorem last_rows (g : Fin 64 → ℕ) : ∑ r : Fin 32, (g ⟨32 * (0 : Fin 2).1 + r.1, by omega⟩ + g ⟨32 * (1 : Fin 2).1 + r.1, by omega⟩) = ∑ j, g j := by
  rw [sum_grid 2 32 (by norm_num) g, Fin.sum_univ_two, Finset.sum_add_distrib]

theorem all_chunks (g : Fin 3136 → ℕ) :
    ∑ j : Fin 512, g ⟨j.1, by omega⟩ + ∑ j : Fin 512, g ⟨512 + j.1, by omega⟩ + ∑ j : Fin 512, g ⟨1024 + j.1, by omega⟩
      + ∑ j : Fin 512, g ⟨1536 + j.1, by omega⟩ + ∑ j : Fin 512, g ⟨2048 + j.1, by omega⟩ + ∑ j : Fin 512, g ⟨2560 + j.1, by omega⟩
      + ∑ j : Fin 64, g ⟨3072 + j.1, by omega⟩ = ∑ i, g i := by
  rw [sum_split 3072 64 (by norm_num) g, sum_split 2560 512 (by norm_num) (fun i : Fin 3072 => g ⟨i.1, by omega⟩),
    sum_split 2048 512 (by norm_num) (fun i : Fin 2560 => g ⟨i.1, by omega⟩),
    sum_split 1536 512 (by norm_num) (fun i : Fin 2048 => g ⟨i.1, by omega⟩),
    sum_split 1024 512 (by norm_num) (fun i : Fin 1536 => g ⟨i.1, by omega⟩),
    sum_split 512 512 (by norm_num) (fun i : Fin 1024 => g ⟨i.1, by omega⟩)]

omit h in
theorem stack_at (s : St Ideal) (q : Fin 3136) (j : Fin 96) :
    (stack s (ix2 j q) : EReal) = if h : j.1 < 32 then s.a1 (ix2 ⟨j.1, h⟩ q) else
      if h : j.1 - 32 < 32 then s.a2 (ix2 ⟨j.1 - 32, h⟩ q) else s.a3 (ix2 ⟨j.1 - 32 - 32, by omega⟩ q) := by
  pointwise [stack]

omit h in
/-- The candidates are the three numbers of every row. -/
theorem stack_sum (s : St Ideal) (q : Fin 3136) (g : EReal → ℕ) :
    ∑ j : Fin 96, g (stack s (ix2 j q)) = ∑ r : Fin 32, (g (s.a1 (ix2 r q)) + g (s.a2 (ix2 r q)) + g (s.a3 (ix2 r q))) := by
  have h1 : ∀ i : Fin 32, (stack s (ix2 ⟨i.1, by omega⟩ q) : EReal) = s.a1 (ix2 i q) := by
    intro i; rw [stack_at]; dsimp only; rw [dif_pos i.2]
  have h2 : ∀ i : Fin 32, (stack s (ix2 ⟨32 + i.1, by omega⟩ q) : EReal) = s.a2 (ix2 i q) := by
    intro i
    rw [stack_at]; dsimp only
    rw [dif_neg (by omega), dif_pos (by omega)]
    congr 2; exact Fin.ext (by show 32 + i.1 - 32 = i.1; omega)
  have h3 : ∀ i : Fin 32, (stack s (ix2 ⟨64 + i.1, by omega⟩ q) : EReal) = s.a3 (ix2 i q) := by
    intro i
    rw [stack_at]; dsimp only
    rw [dif_neg (by omega), dif_neg (by omega)]
    congr 2; exact Fin.ext (by show 64 + i.1 - 32 - 32 = i.1; omega)
  rw [sum_split 64 32 (by norm_num) fun j : Fin 96 => g (stack s (ix2 j q)),
    sum_split 32 32 (by norm_num) fun j : Fin 64 => g (stack s (ix2 ⟨j.1, by omega⟩ q))]
  dsimp only
  rw [Finset.sum_congr rfl fun i _ => congrArg g (h1 i), Finset.sum_congr rfl fun i _ => congrArg g (h2 i),
    Finset.sum_congr rfl fun i _ => congrArg g (h3 i), Finset.sum_add_distrib, Finset.sum_add_distrib]

/-- The candidates at the end hold as many members, up to three, as all the centres. -/
theorem search_iff (X0 X1 X2 X3 X4 X5 : FVec Ideal S512x3136 .f32) (X6 : FVec Ideal S64x3136 .f32) (v : Fin 3136 → EReal) (q : Fin 3136)
    (h0 : ∀ j : Fin 512, X0 (ix2 j q) = v ⟨j.1, by omega⟩) (h1 : ∀ j : Fin 512, X1 (ix2 j q) = v ⟨512 + j.1, by omega⟩)
    (h2 : ∀ j : Fin 512, X2 (ix2 j q) = v ⟨1024 + j.1, by omega⟩) (h3 : ∀ j : Fin 512, X3 (ix2 j q) = v ⟨1536 + j.1, by omega⟩)
    (h4 : ∀ j : Fin 512, X4 (ix2 j q) = v ⟨2048 + j.1, by omega⟩) (h5 : ∀ j : Fin 512, X5 (ix2 j q) = v ⟨2560 + j.1, by omega⟩)
    (h6 : ∀ j : Fin 64, X6 (ix2 j q) = v ⟨3072 + j.1, by omega⟩) (k : ℕ) (hk : k ≤ 3) :
    k ≤ ∑ j : Fin 96, one (P (stack (search X0 X1 X2 X3 X4 X5 X6) (ix2 j q))) ↔ k ≤ ∑ i, one (P (v i)) := by
  have hr := fun r : Fin 32 => holds_ins h (holds_ins h (holds_chunk h X5 (holds_chunk h X4 (holds_chunk h X3 (holds_chunk h X2
    (holds_chunk h X1 (holds_chunk h X0 (holds_st0 h r q))))))) (sl64 X6 0)) (sl64 X6 1)
  rw [stack_sum _ q fun x => one (P x)]
  have e := Finset.sum_congr rfl fun r (_ : r ∈ (Finset.univ : Finset (Fin 32))) => At.ones (hr r)
  refine (iff_of_eq (congrArg (k ≤ ·) e)).trans ?_
  rw [sum_min_iff _ _ k hk]
  refine iff_of_eq (congrArg (k ≤ ·) ?_)
  simp only [Finset.sum_add_distrib, sl64_at]
  rw [chunk_rows h fun j => one (P (X0 (ix2 j q))), chunk_rows h fun j => one (P (X1 (ix2 j q))), chunk_rows h fun j => one (P (X2 (ix2 j q))),
    chunk_rows h fun j => one (P (X3 (ix2 j q))), chunk_rows h fun j => one (P (X4 (ix2 j q))), chunk_rows h fun j => one (P (X5 (ix2 j q)))]
  have hl := last_rows h fun j => one (P (X6 (ix2 j q)))
  rw [Finset.sum_add_distrib] at hl
  rw [add_assoc, hl, ← all_chunks h]
  simp only [h0, h1, h2, h3, h4, h5, h6]
  simp

end Cert.KernelIdeal.Search

end
-- ==== Proof.Column.lean ====
/- One number of the program's result: the score of the three nearest centres.

   The search hands on three numbers that stand at the counts of all 3136 centres. Distances are an increasing function of
   what the search compares, so the three distances taken from them are the three smallest distances, in any order that
   sorts them. -/
module

public import proofs.«01_k».proof.Proof.Search

@[expose] public section

set_option maxRecDepth 16384

noncomputable section

namespace Cert.KernelIdeal.Column

open Cert.KernelIdeal Cert.KernelIdeal.Gen Cert.KernelIdeal.Facts Cert.KernelIdeal.Net Cert.KernelIdeal.Desc Cert.KernelIdeal.Tail
open Idealize.ShloMosaic Cert.Top3 Cert.Model

/-- The square root does not reverse order. -/
theorem sqrt_mono : Monotone Ideal.sqrt := by
  intro x y h
  induction x using EReal.rec with
  | bot => exact bot_le
  | top => rw [top_le_iff.mp h]
  | coe r =>
    induction y using EReal.rec with
    | bot => exact absurd h (not_le.mpr (EReal.bot_lt_coe r))
    | top => exact le_top
    | coe s =>
      have hrs : r ≤ s := EReal.coe_le_coe_iff.mp h
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

theorem far_mono (f : EReal) : Monotone (far f) := fun _ _ h => sqrt_mono (max_le_max (add_le_add_left h _) le_rfl)

theorem far_top (f : ℝ) : far (f : EReal) ⊤ = ⊤ := by
  unfold far
  rw [EReal.top_add_coe, max_eq_left le_top, Ideal.sqrt_top]

/-- Three numbers that stand at the counts of the `v i` are sent to the three smallest of the `far f (v i)`. -/
theorem three_of {n : ℕ} (f : ℝ) (v : Fin n → EReal) (m1 m2 m3 : EReal)
    (hm : ∀ P : EReal → Prop, Low P → (P m1 ↔ 1 ≤ ∑ i, one (P (v i))) ∧ (P m2 ↔ 2 ≤ ∑ i, one (P (v i))) ∧ (P m3 ↔ 3 ≤ ∑ i, one (P (v i))))
    (σ : Fin n → Fin n) (hσ : Function.Bijective σ) (hs : ∀ i j, i ≤ j → far f (v (σ i)) ≤ far f (v (σ j))) (hn : 3 ≤ n) :
    far f m1 = far f (v (σ ⟨0, by omega⟩)) ∧ far f m2 = far f (v (σ ⟨1, by omega⟩)) ∧ far f m3 = far f (v (σ ⟨2, by omega⟩)) := by
  have low := fun t (ht : t < (⊤ : EReal)) => low_le (far_mono f) (far_top f) ht
  have key := fun t (ht : t < (⊤ : EReal)) (k : Fin n) =>
    sorted_iff (low_le (g := id) monotone_id rfl ht) (fun i => far f (v i)) σ hσ hs k
  refine ⟨eq_of_le_iff fun t ht => ?_, eq_of_le_iff fun t ht => ?_, eq_of_le_iff fun t ht => ?_⟩
  · exact (hm _ (low t ht)).1.trans (key t ht ⟨0, by omega⟩).symm
  · exact (hm _ (low t ht)).2.1.trans (key t ht ⟨1, by omega⟩).symm
  · exact (hm _ (low t ht)).2.2.trans (key t ht ⟨2, by omega⟩).symm

variable [Cert.KernelIdeal.Facts]

section
variable {x0 : Vec Ideal S1x256x3136 .f32} {x1 : Vec Ideal S1x512x784 .f32} {x2 : Vec Ideal S1x1024x196 .f32} {x3 : Vec Ideal S224x1794 .f32}
  {x4 : Vec Ideal S224x1 .f32} {x5 : Vec Ideal S983x3136 .f32} {x6 : Vec Ideal S224x3136 .f32} {x7 : Vec Ideal S3136x224 .f32}
  {W : Fin 224 → Fin 1794 → ℝ} {b : Fin 224 → ℝ} {p1 : Fin 256 → Fin 56 → Fin 56 → ℝ} {p2 : Fin 512 → Fin 28 → Fin 28 → ℝ}
  {p3 : Fin 1024 → Fin 14 → Fin 14 → ℝ} {C : Fin 3136 → Fin 224 → ℝ}

/-- The last 64 centres. -/
theorem chunk3072 (R : Reads x0 x1 x2 x3 x4 x5 x6 x7 W b p1 p2 p3 C) (j : Fin 64) (s : Fin 3136) :
    (last (k0_pay404 x0 x1 x2 x3 x4 x5 x6 x7) (k0_pay405 x0 x1 x2 x3 x4 x5 x6 x7) (k0_pay406 x0 x1 x2 x3 x4 x5 x6 x7) (ix2 j s) : EReal)
      = ((near W b p1 p2 p3 C ⟨3072 + j.1, by omega⟩ s : ℝ) : EReal) := by
  pointwise [last]
  simp only [cent R, code R, word R, Reals.mul, Reals.sum, Reals.add]
  rfl

/-- The distance from the descriptor of pixel `s` to centre `k`. -/
def away (W : Fin 224 → Fin 1794 → ℝ) (b : Fin 224 → ℝ) (p1 : Fin 256 → Fin 56 → Fin 56 → ℝ) (p2 : Fin 512 → Fin 28 → Fin 28 → ℝ)
    (p3 : Fin 1024 → Fin 14 → Fin 14 → ℝ) (C : Fin 3136 → Fin 224 → ℝ) (s k : Fin 3136) : ℝ :=
  Real.sqrt (max (Model.dist (fun o => desc (W o) (b o) p1 p2 p3 (s.1 / 56) (s.1 % 56)) (C k)) Reals.eps)

theorem far_near (W : Fin 224 → Fin 1794 → ℝ) (b : Fin 224 → ℝ) (p1 : Fin 256 → Fin 56 → Fin 56 → ℝ) (p2 : Fin 512 → Fin 28 → Fin 28 → ℝ)
    (p3 : Fin 1024 → Fin 14 → Fin 14 → ℝ) (C : Fin 3136 → Fin 224 → ℝ) (s k : Fin 3136) :
    far (((∑ o, -2 * desc (W o) (b o) p1 p2 p3 (s.1 / 56) (s.1 % 56) * (-2 * desc (W o) (b o) p1 p2 p3 (s.1 / 56) (s.1 % 56))) * (1 / 4) : ℝ) : EReal)
      ((near W b p1 p2 p3 C k s : ℝ) : EReal) = ((away W b p1 p2 p3 C s k : ℝ) : EReal) := by
  unfold far near away
  rw [Reals.add, Reals.ofBits_eps, Model.dist_eq (fun o => desc (W o) (b o) p1 p2 p3 (s.1 / 56) (s.1 % 56)) (C k), Reals.max,
    Reals.sqrt (le_max_of_le_right Reals.eps_pos.le)]

/-- The score of three real distances. -/
theorem score_real (a b c : ℝ) : score (a : EReal) (b : EReal) (c : EReal) = ((a / (1 + Real.exp (a - b) + Real.exp (a - c)) : ℝ) : EReal) := by
  unfold score
  have h : (0 : ℝ) < 1 + Real.exp (a - b) + Real.exp (a - c) := by positivity
  rw [Reals.sub, Reals.sub, Ideal.exp_coe, Ideal.exp_coe, Reals.one, Reals.add, Reals.add, Reals.div _ h.ne']

/-- The body's output at pixel `s`. -/
theorem at_pixel (R : Reads x0 x1 x2 x3 x4 x5 x6 x7 W b p1 p2 p3 C) (s : Fin 3136) (σ : Fin 3136 → Fin 3136) (hσ : Function.Bijective σ)
    (hs : ∀ i j, i ≤ j → away W b p1 p2 p3 C s (σ i) ≤ away W b p1 p2 p3 C s (σ j)) :
    (k0_pay401 (k0_pay10 (k0_pay402 x0 x1 x2 x3 x4 x5 x6 x7)) (k0_pay398 (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7) (k0_pay443 x0 x1 x2 x3 x4 x5 x6 x7)) (iota .tc S96x3136 32 [0] iota_S96x3136_d0_w32)
        (k0_pay399 (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7) (k0_pay443 x0 x1 x2 x3 x4 x5 x6 x7))
        (k0_pay400 (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7) (k0_pay443 x0 x1 x2 x3 x4 x5 x6 x7)) (ix2 0 s) : EReal)
      = ((away W b p1 p2 p3 C s (σ 0) / (1 + Real.exp (away W b p1 p2 p3 C s (σ 0) - away W b p1 p2 p3 C s (σ 1))
          + Real.exp (away W b p1 p2 p3 C s (σ 0) - away W b p1 p2 p3 C s (σ 2))) : ℝ) : EReal) := by
  obtain ⟨m1, m2, m3, hm, e⟩ := tail (k0_pay10 (k0_pay402 x0 x1 x2 x3 x4 x5 x6 x7)) (k0_pay404 x0 x1 x2 x3 x4 x5 x6 x7) (k0_pay405 x0 x1 x2 x3 x4 x5 x6 x7) (k0_pay406 x0 x1 x2 x3 x4 x5 x6 x7) (k0_pay436 x0 x1 x2 x3 x4 x5 x6 x7) (k0_pay440 x0 x1 x2 x3 x4 x5 x6 x7) (k0_pay441 x0 x1 x2 x3 x4 x5 x6 x7) (k0_pay442 x0 x1 x2 x3 x4 x5 x6 x7) (k0_pay443 x0 x1 x2 x3 x4 x5 x6 x7) s
  refine e.trans ?_
  have cnt := fun (P : EReal → Prop) (hP : Low P) (k : ℕ) (hk : k ≤ 3) =>
    Search.search_iff hP (k0_pay407 x0 x1 x2 x3 x4 x5 x6 x7) (k0_pay414 x0 x1 x2 x3 x4 x5 x6 x7) (k0_pay418 x0 x1 x2 x3 x4 x5 x6 x7) (k0_pay425 x0 x1 x2 x3 x4 x5 x6 x7) (k0_pay432 x0 x1 x2 x3 x4 x5 x6 x7) (k0_pay436 x0 x1 x2 x3 x4 x5 x6 x7)
      (last (k0_pay404 x0 x1 x2 x3 x4 x5 x6 x7) (k0_pay405 x0 x1 x2 x3 x4 x5 x6 x7) (k0_pay406 x0 x1 x2 x3 x4 x5 x6 x7))
      (fun i => ((near W b p1 p2 p3 C i s : ℝ) : EReal)) s
      (fun j => (chunk0 R j s).trans (by simp only [Nat.zero_add])) (fun j => chunk512 R j s) (fun j => chunk1024 R j s) (fun j => chunk1536 R j s) (fun j => chunk2048 R j s)
      (fun j => chunk2560 R j s) (fun j => chunk3072 R j s) k hk
  rw [found] at hm
  have hm' := fun (P : EReal → Prop) (hP : Low P) =>
    (⟨(hm P hP).1.trans (cnt P hP 1 (by decide)), (hm P hP).2.1.trans (cnt P hP 2 (by decide)), (hm P hP).2.2.trans (cnt P hP 3 (by decide))⟩ :
      _ ∧ _ ∧ _)
  have hlen := len R s
  rw [hlen]
  obtain ⟨h1, h2, h3⟩ := three_of _ _ m1 m2 m3 hm' σ hσ
    (fun i j hij => by rw [far_near, far_near]; exact EReal.coe_le_coe_iff.mpr (hs i j hij)) (by decide)
  rw [h1, h2, h3, far_near, far_near, far_near, score_real]
  rfl

end

end Cert.KernelIdeal.Column

end
-- ==== Proof.Block.lean ====
/- The kernel's blocks at a grid point are the arguments of one image. -/
module

public import proofs.«01_k».proof.Proof.Host
public import proofs.«01_k».proof.Proof.Column
public import Idealize.ShloMosaic.Lib.Pipeline.ValueKit
public import Idealize.ShloMosaic.Lib.Claim

@[expose] public section

set_option maxRecDepth 16384

noncomputable section

namespace Cert.KernelIdeal.Block

open Cert.KernelIdeal Cert.KernelIdeal.Gen Cert.KernelIdeal.Facts Cert.KernelIdeal.Desc Cert.KernelIdeal.Host Cert.Model
open Idealize.ShloMosaic Idealize.ShloMosaic.TcCoe Idealize.SL.Sem Idealize.ShloMosaic.StableHlo

variable (m : (ℓ : Loc nD τ sig) → Buf (Elt Ideal) ℓ) (c : Dev nD)

/-- The region finds what the stretches leave, the first of them read from the arguments. -/
theorem entry (b : Ref sig .tc) : V m c b = rest (after hostOps0 (fun b => m (c, b))) b := by
  show after (List.flatten _) _ _ = _
  simp only [List.flatten_cons, List.flatten_nil, List.append_nil, after_append]

/-- The index maps: three windows and the result move with the grid point, the others stay. -/
theorem idx : ∀ t : Fin grid0.N, win0_0.index t = ![t.1, 0, 0] ∧ win0_1.index t = ![t.1, 0, 0] ∧ win0_2.index t = ![t.1, 0, 0] ∧ win0_3.index t = ![0, 0]
    ∧ win0_4.index t = ![0, 0] ∧ win0_5.index t = ![0, 0] ∧ win0_6.index t = ![0, 0] ∧ win0_7.index t = ![0, 0] ∧ win0_8.index t = ![t.1, 0, 0] := by
  decide +kernel

/-- The image of a grid point. -/
abbrev img (t : Fin cfg0.N) : Fin 8 := ⟨t.1, lt_of_lt_of_eq t.2 N_0⟩

/-! Each window's block at a grid point, read in the array it is staged from. -/

theorem b0 (t : Fin cfg0.N) (h : Fin 256) (s : Fin 3136) : (iblk m c 0 t (ix3 0 h s) : EReal) = (V m c main_v0 : FVec Ideal S8x256x3136 .f32) (ix3 (img t) h s) := by
  blk_ext [iblk, idx t]

theorem b1 (t : Fin cfg0.N) (h : Fin 512) (s : Fin 784) : (iblk m c 1 t (ix3 0 h s) : EReal) = (V m c main_v1 : FVec Ideal S8x512x784 .f32) (ix3 (img t) h s) := by
  blk_ext [iblk, idx t]

theorem b2 (t : Fin cfg0.N) (h : Fin 1024) (s : Fin 196) : (iblk m c 2 t (ix3 0 h s) : EReal) = (V m c main_v2 : FVec Ideal S8x1024x196 .f32) (ix3 (img t) h s) := by
  blk_ext [iblk, idx t]

theorem b3 (t : Fin cfg0.N) (o : Fin 224) (k : Fin 1794) : (iblk m c 3 t (ix2 o k) : EReal) = (V m c main_arg3 : FVec Ideal S224x1794 .f32) (ix2 o k) := by
  blk_ext [iblk, idx t]

theorem b4 (t : Fin cfg0.N) (o : Fin 224) : (iblk m c 4 t (ix2 o 0) : EReal) = (V m c main_v3 : FVec Ideal S224x1 .f32) (ix2 o 0) := by
  blk_ext [iblk, idx t]

theorem b5 (t : Fin cfg0.N) (a : Fin 983) (s : Fin 3136) : (iblk m c 5 t (ix2 a s) : EReal) = (V m c main_v114 : FVec Ideal S983x3136 .f32) (ix2 a s) := by
  blk_ext [iblk, idx t]

theorem b6 (t : Fin cfg0.N) (o : Fin 224) (k : Fin 3136) : (iblk m c 6 t (ix2 o k) : EReal) = (V m c main_arg5 : FVec Ideal S224x3136 .f32) (ix2 o k) := by
  blk_ext [iblk, idx t]

theorem b7 (t : Fin cfg0.N) (k : Fin 3136) (o : Fin 224) : (iblk m c 7 t (ix2 k o) : EReal) = (V m c main_v115 : FVec Ideal S3136x224 .f32) (ix2 k o) := by
  blk_ext [iblk, idx t]

/-- The arguments, as real numbers. -/
structure Args (p1 : Fin 8 → Fin 256 → Fin 56 → Fin 56 → ℝ) (p2 : Fin 8 → Fin 512 → Fin 28 → Fin 28 → ℝ)
    (p3 : Fin 8 → Fin 1024 → Fin 14 → Fin 14 → ℝ) (W : Fin 224 → Fin 1794 → ℝ) (b : Fin 224 → ℝ) (C : Fin 3136 → Fin 224 → ℝ) : Prop where
  a0 : ∀ n h x y, (m ((c : Thread nD τ).loc main_arg0) : FVec Ideal S8x256x56x56 .f32) (ix4 n h x y) = ((p1 n h x y : ℝ) : EReal)
  a1 : ∀ n h x y, (m ((c : Thread nD τ).loc main_arg1) : FVec Ideal S8x512x28x28 .f32) (ix4 n h x y) = ((p2 n h x y : ℝ) : EReal)
  a2 : ∀ n h x y, (m ((c : Thread nD τ).loc main_arg2) : FVec Ideal S8x1024x14x14 .f32) (ix4 n h x y) = ((p3 n h x y : ℝ) : EReal)
  a3 : ∀ o k, (m ((c : Thread nD τ).loc main_arg3) : FVec Ideal S224x1794 .f32) (ix2 o k) = ((W o k : ℝ) : EReal)
  a4 : ∀ o, (m ((c : Thread nD τ).loc main_arg4) : FVec Ideal S224 .f32) (ix1 o) = ((b o : ℝ) : EReal)
  a5 : ∀ o k, (m ((c : Thread nD τ).loc main_arg5) : FVec Ideal S224x3136 .f32) (ix2 o k) = ((C k o : ℝ) : EReal)

/-- The transposed centres are the centres. -/
theorem centres (o : Fin 224) (k : Fin 3136) : (V m c main_v115 : FVec Ideal S3136x224 .f32) (ix2 k o) = (m ((c : Thread nD τ).loc main_arg5) : FVec Ideal S224x3136 .f32) (ix2 o k) := by
  have e : (V m c main_arg5 : FVec Ideal S224x3136 .f32) (ix2 o k) = (m ((c : Thread nD τ).loc main_arg5) : FVec Ideal S224x3136 .f32) (ix2 o k) :=
    congrFun (V_main_arg5 m c) (ix2 o k)
  refine Eq.trans ?_ e
  rw [entry, entry]
  exact (v115 _ o k).trans (congrFun (keep_arg5 _) (ix2 o k)).symm

/-- What the body reads at a grid point: the image's maps and the arguments that all images share. -/
theorem reads {p1 : Fin 8 → Fin 256 → Fin 56 → Fin 56 → ℝ} {p2 : Fin 8 → Fin 512 → Fin 28 → Fin 28 → ℝ}
    {p3 : Fin 8 → Fin 1024 → Fin 14 → Fin 14 → ℝ} {W : Fin 224 → Fin 1794 → ℝ} {b : Fin 224 → ℝ} {C : Fin 3136 → Fin 224 → ℝ}
    (A : Args m c p1 p2 p3 W b C) (t : Fin cfg0.N) :
    Reads (iblk m c 0 t) (iblk m c 1 t) (iblk m c 2 t) (iblk m c 3 t) (iblk m c 4 t) (iblk m c 5 t) (iblk m c 6 t) (iblk m c 7 t)
      W b (p1 (img t)) (p2 (img t)) (p3 (img t)) C where
  h0 h s := by
    refine (b0 m c t h s).trans (Eq.trans ?_ (A.a0 _ _ _ _))
    rw [entry]
    exact (congrFun (keep0 _) _).trans (v0 _ _ _ _)
  h1 h s := by
    refine (b1 m c t h s).trans (Eq.trans ?_ (A.a1 _ _ _ _))
    rw [entry]
    exact (congrFun (keep1 _) _).trans (v1 _ _ _ _)
  h2 h s := by
    refine (b2 m c t h s).trans (Eq.trans ?_ (A.a2 _ _ _ _))
    rw [entry]
    exact (congrFun (keep2 _) _).trans (v2 _ _ _ _)
  h3 o k := (b3 m c t o k).trans ((congrFun (V_main_arg3 m c) (ix2 o k)).trans (A.a3 o k))
  h4 o := by
    refine (b4 m c t o).trans (Eq.trans ?_ (A.a4 o))
    rw [entry]
    exact (congrFun (keep3 _) _).trans (v3 _ _)
  h5a i s := by
    refine (b5 m c t _ s).trans ?_
    rw [entry]
    exact table_a _ i s
  h5b i s := by
    refine (b5 m c t _ s).trans ?_
    rw [entry]
    exact table_b _ i s
  h5c s := by
    refine (b5 m c t _ s).trans ?_
    rw [entry]
    exact table_c _ s
  h5d s := by
    refine (b5 m c t _ s).trans ?_
    rw [entry]
    exact table_d _ s
  h5e s := by
    refine (b5 m c t _ s).trans ?_
    rw [entry]
    exact table_e _ s
  h6 o k := (b6 m c t o k).trans ((congrFun (V_main_arg5 m c) (ix2 o k)).trans (A.a5 o k))
  h7 k o := (b7 m c t k o).trans ((centres m c o k).trans (A.a5 o k))

end Cert.KernelIdeal.Block

end
-- ==== Proof.RefWts.lean ====
/- The sampling positions and the triangle weights of the reference's two enlargements, as reals. -/
module

public import proofs.«01_k».proof.Proof.Gen.ReferenceIdeal.Run
public import proofs.«01_k».proof.Proof.Reals
public import proofs.«01_k».proof.Proof.Model
public import Idealize.ShloMosaic.Lib.Pointwise
public import Idealize.ShloMosaic.Lib.Tactic.CleanTypes

@[expose] public section

set_option maxRecDepth 16384

noncomputable section

namespace Cert.ReferenceIdeal.Wts

open Cert.ReferenceIdeal Cert.ReferenceIdeal.Gen Cert.ReferenceIdeal.Value Idealize.ShloMosaic Idealize.ShloMosaic.StableHlo Idealize.SL.Sem Cert.Model

variable (V0 : Valuation τ sig (Elt Ideal))

/-- A sample's position, from the reciprocal of the ratio. -/
theorem place (h : Fin 56) (r : ℝ) (hr : r ≠ 0) :
    ((FloatOps.sitofp .f32 (BitVec.ofNat 32 h.1) : Ideal .f32) + Ideal.ofBits .f32 0x3F000000#32) * Ideal.div 1 (r : EReal)
        - 0 * Ideal.div 1 (r : EReal) - Ideal.ofBits .f32 0x3F000000#32 = ((((h : ℝ) + 1 / 2) / r - 1 / 2 : ℝ) : EReal) := by
  rw [Reals.nat _ (by omega), Reals.half, Reals.one, Reals.zero, Reals.div _ hr]
  simp only [Reals.add, Reals.mul, Reals.sub]
  congr 1
  ring

/-- A weight before normalising: the reference divides by the greater of the reciprocal and one, which is one. -/
theorem weigh (p : ℝ) (i : ℕ) (hi : i < 2 ^ 31) (r : ℝ) (hr : 1 ≤ r) :
    max 0 (1 - (FloatOps.absf (F := Ideal) (φ := .f32) (Ideal.div (FloatOps.absf (F := Ideal) (φ := .f32) ((p : EReal) - (FloatOps.sitofp .f32 (BitVec.ofNat 32 i) : Ideal .f32)))
      (max (Ideal.div 1 (r : EReal)) 1)) : EReal)) = ((max 0 (1 - |p - i|) : ℝ) : EReal) := by
  have h1 : max (1 / r) 1 = (1 : ℝ) := max_eq_right (by rw [div_le_one (by linarith)]; exact hr)
  rw [Reals.nat _ hi, Reals.sub, Reals.abs, Reals.one, Reals.div _ (by linarith : r ≠ 0), Reals.max, h1, Reals.div _ one_ne_zero,
    Reals.abs, Reals.sub, Reals.zero, Reals.max, div_one, abs_abs]

/-- A sample's position is not above the last one's. -/
theorem pos_le (h : Fin 56) (r B : ℝ) (hr : 0 < r) (hB : (55 + 1 / 2) / r - 1 / 2 ≤ B) : ((h : ℝ) + 1 / 2) / r - 1 / 2 ≤ B := by
  have : ((h.1 : ℕ) : ℝ) ≤ 55 := by exact_mod_cast (by omega : h.1 ≤ 55)
  have := (div_le_div_iff_of_pos_right hr).mpr (by linarith : (h : ℝ) + 1 / 2 ≤ 55 + 1 / 2)
  linarith

theorem le_pos (h : Fin 56) (r : ℝ) (hr : 0 < r) : -(1 / 2) ≤ ((h : ℝ) + 1 / 2) / r - 1 / 2 := by
  have := div_nonneg (by positivity : (0 : ℝ) ≤ (h : ℝ) + 1 / 2) hr.le
  linarith

/-- The weight in use: the sample lies among the rows, and its total is not small, so it is the normalised weight. -/
theorem used {p b t w : ℝ} {P B T U : EReal} (hP : P = p) (hT : T = t) (hU : U = w) (hB : B = b) (hp : -(1 / 2) ≤ p) (hb : p ≤ b) (ht : 1 / 2 ≤ t) :
    Scalar.select (IntOp.andi (BitVec.ofBool (decide (Ideal.ofBits .f32 0xBF000000#32 ≤ P))) (BitVec.ofBool (decide (P ≤ B))))
      (if Ideal.ofBits .f32 0x38FA0000#32 < (FloatOps.absf (F := Ideal) (φ := .f32) T : EReal) then
        Ideal.div U (if T ≠ 0 then T else (FloatOps.sitofp .f32 (1#32) : Ideal .f32))
        else (FloatOps.sitofp .f32 (0#32) : Ideal .f32)) (FloatOps.sitofp .f32 (0#32) : Ideal .f32) = ((w / t : ℝ) : EReal) := by
  subst hP hT hU
  have ht0 : t ≠ 0 := by linarith
  have e1 : Ideal.ofBits .f32 0x38FA0000#32 < (FloatOps.absf (F := Ideal) (φ := .f32) (t : EReal) : EReal) := by
    rw [Reals.least, Reals.abs, EReal.coe_lt_coe_iff, abs_of_nonneg (by linarith)]
    linarith [show (8192000 / 68719476736 : ℝ) < 1 / 2 by norm_num]
  have e2 : (t : EReal) ≠ 0 := by rw [Reals.zero]; exact fun h => ht0 (EReal.coe_injective h)
  have e3 : Ideal.ofBits .f32 0xBF000000#32 ≤ (p : EReal) := by rw [Reals.neghalf, EReal.coe_le_coe_iff]; exact hp
  have e4 : (p : EReal) ≤ B := by rw [hB, EReal.coe_le_coe_iff]; exact hb
  rw [if_pos e1, if_pos e2, decide_eq_true e3, decide_eq_true e4, Reals.div _ ht0]
  rfl

theorem used2 (h : Fin 56) (i : Fin 28) {P T U : EReal} (hP : P = ((((h : ℝ) + 1 / 2) / 2 - 1 / 2 : ℝ) : EReal)) (hT : T = ((tot 28 2 h : ℝ) : EReal))
    (hU : U = ((tri 2 h i : ℝ) : EReal)) :
    Scalar.select (IntOp.andi (BitVec.ofBool (decide (Ideal.ofBits .f32 0xBF000000#32 ≤ P))) (BitVec.ofBool (decide (P ≤ Ideal.ofBits .f32 0x41DC0000#32))))
      (if Ideal.ofBits .f32 0x38FA0000#32 < (FloatOps.absf (F := Ideal) (φ := .f32) T : EReal) then
        Ideal.div U (if T ≠ 0 then T else (FloatOps.sitofp .f32 (1#32) : Ideal .f32))
        else (FloatOps.sitofp .f32 (0#32) : Ideal .f32)) (FloatOps.sitofp .f32 (0#32) : Ideal .f32) = ((wgt 28 2 h i : ℝ) : EReal) :=
  used hP hT hU Reals.last28 (le_pos h 2 (by norm_num)) (pos_le h 2 (55 / 2) (by norm_num) (by norm_num)) (half_le_tot2 h)

theorem used4 (h : Fin 56) (i : Fin 14) {P T U : EReal} (hP : P = ((((h : ℝ) + 1 / 2) / 4 - 1 / 2 : ℝ) : EReal)) (hT : T = ((tot 14 4 h : ℝ) : EReal))
    (hU : U = ((tri 4 h i : ℝ) : EReal)) :
    Scalar.select (IntOp.andi (BitVec.ofBool (decide (Ideal.ofBits .f32 0xBF000000#32 ≤ P))) (BitVec.ofBool (decide (P ≤ Ideal.ofBits .f32 0x41580000#32))))
      (if Ideal.ofBits .f32 0x38FA0000#32 < (FloatOps.absf (F := Ideal) (φ := .f32) T : EReal) then
        Ideal.div U (if T ≠ 0 then T else (FloatOps.sitofp .f32 (1#32) : Ideal .f32))
        else (FloatOps.sitofp .f32 (0#32) : Ideal .f32)) (FloatOps.sitofp .f32 (0#32) : Ideal .f32) = ((wgt 14 4 h i : ℝ) : EReal) :=
  used hP hT hU Reals.last14 (le_pos h 4 (by norm_num)) (pos_le h 4 (27 / 2) (by norm_num) (by norm_num)) (half_le_tot4 h)

/-! ## Enlarging by two, rows -/

theorem pos23 (h : Fin 56) : (res_main_v23 V0 : FVec Ideal S56 .f32) (ix1 h) = ((((h : ℝ) + 1 / 2) / 2 - 1 / 2 : ℝ) : EReal) := by
  unfold res_main_v23 res_main_v12 res_main_cst res_main_cst_0; clean_types; pointwise
  rw [Reals.two]
  exact place h 2 (by norm_num)

theorem tri37 (i : Fin 28) (h : Fin 56) : (res_main_v37 V0 : FVec Ideal S28x56 .f32) (ix2 i h) = ((tri 2 h i : ℝ) : EReal) := by
  have e := pos23 V0 h
  unfold res_main_v37 res_main_v12 res_main_cst; clean_types; pointwise
  rw [e, Reals.two]
  exact weigh _ i.1 (by omega) 2 (by norm_num)

theorem tot39 (h : Fin 56) : (res_main_v39 V0 : FVec Ideal S1x56 .f32) (ix2 0 h) = ((tot 28 2 h : ℝ) : EReal) := by
  unfold res_main_v39; clean_types; pointwise
  rw [tot, ← Reals.sum]
  exact Finset.sum_congr rfl fun i _ => tri37 V0 i h

/-! ## Enlarging by two, columns -/

theorem pos71 (h : Fin 56) : (res_main_v71 V0 : FVec Ideal S56 .f32) (ix1 h) = ((((h : ℝ) + 1 / 2) / 2 - 1 / 2 : ℝ) : EReal) := by
  unfold res_main_v71 res_main_v60 res_main_cst res_main_cst_0; clean_types; pointwise
  rw [Reals.two]
  exact place h 2 (by norm_num)

theorem tri85 (i : Fin 28) (h : Fin 56) : (res_main_v85 V0 : FVec Ideal S28x56 .f32) (ix2 i h) = ((tri 2 h i : ℝ) : EReal) := by
  have e := pos71 V0 h
  unfold res_main_v85 res_main_v60 res_main_cst; clean_types; pointwise
  rw [e, Reals.two]
  exact weigh _ i.1 (by omega) 2 (by norm_num)

theorem tot87 (h : Fin 56) : (res_main_v87 V0 : FVec Ideal S1x56 .f32) (ix2 0 h) = ((tot 28 2 h : ℝ) : EReal) := by
  unfold res_main_v87; clean_types; pointwise
  rw [tot, ← Reals.sum]
  exact Finset.sum_congr rfl fun i _ => tri85 V0 i h

/-! ## Enlarging by four, rows -/

theorem pos127 (h : Fin 56) : (res_main_v127 V0 : FVec Ideal S56 .f32) (ix1 h) = ((((h : ℝ) + 1 / 2) / 4 - 1 / 2 : ℝ) : EReal) := by
  unfold res_main_v127 res_main_v116 res_main_cst_1 res_main_cst_2; clean_types; pointwise
  rw [Reals.four]
  exact place h 4 (by norm_num)

theorem tri141 (i : Fin 14) (h : Fin 56) : (res_main_v141 V0 : FVec Ideal S14x56 .f32) (ix2 i h) = ((tri 4 h i : ℝ) : EReal) := by
  have e := pos127 V0 h
  unfold res_main_v141 res_main_v116 res_main_cst_1; clean_types; pointwise
  rw [e, Reals.four]
  exact weigh _ i.1 (by omega) 4 (by norm_num)

theorem tot143 (h : Fin 56) : (res_main_v143 V0 : FVec Ideal S1x56 .f32) (ix2 0 h) = ((tot 14 4 h : ℝ) : EReal) := by
  unfold res_main_v143; clean_types; pointwise
  rw [tot, ← Reals.sum]
  exact Finset.sum_congr rfl fun i _ => tri141 V0 i h

/-! ## Enlarging by four, columns -/

theorem pos175 (h : Fin 56) : (res_main_v175 V0 : FVec Ideal S56 .f32) (ix1 h) = ((((h : ℝ) + 1 / 2) / 4 - 1 / 2 : ℝ) : EReal) := by
  unfold res_main_v175 res_main_v164 res_main_cst_1 res_main_cst_2; clean_types; pointwise
  rw [Reals.four]
  exact place h 4 (by norm_num)

theorem tri189 (i : Fin 14) (h : Fin 56) : (res_main_v189 V0 : FVec Ideal S14x56 .f32) (ix2 i h) = ((tri 4 h i : ℝ) : EReal) := by
  have e := pos175 V0 h
  unfold res_main_v189 res_main_v164 res_main_cst_1; clean_types; pointwise
  rw [e, Reals.four]
  exact weigh _ i.1 (by omega) 4 (by norm_num)

theorem tot191 (h : Fin 56) : (res_main_v191 V0 : FVec Ideal S1x56 .f32) (ix2 0 h) = ((tot 14 4 h : ℝ) : EReal) := by
  unfold res_main_v191; clean_types; pointwise
  rw [tot, ← Reals.sum]
  exact Finset.sum_congr rfl fun i _ => tri189 V0 i h

end Cert.ReferenceIdeal.Wts

end
-- ==== Proof.Window.lean ====
/- The sum over a three by three window of a padded map, as a real sum over neighbours. -/
module

public import proofs.«01_k».proof.Proof.Reals
public import proofs.«01_k».proof.Proof.Model
public import Idealize.ShloMosaic.Lib.Pointwise

@[expose] public section

noncomputable section

namespace Cert.Window

open Idealize.ShloMosaic Cert.Model

/-- A left-to-right sum is the sum. -/
theorem foldl_add {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- One place under the window, or zero outside the map. -/
def place {n : ℕ} (f : Fin n → Fin n → ℝ) (a b : ℕ) : ℝ :=
  if h : (1 ≤ a ∧ a - 1 < n) ∧ (1 ≤ b ∧ b - 1 < n) then f ⟨a - 1, h.1.2⟩ ⟨b - 1, h.2.2⟩ else 0

/-- The window sum is the sum over the places next to the middle. -/
theorem places {n : ℕ} (f : Fin n → Fin n → ℝ) (i j : Fin n) :
    ∑ a : Fin 3, ∑ b : Fin 3, place f (i.1 + a.1) (j.1 + b.1) = box f i j := by
  have hrow : ∀ a : Fin n, ∑ b : Fin 3, (if h : 1 ≤ j.1 + b.1 ∧ j.1 + b.1 - 1 < n then f a ⟨j.1 + b.1 - 1, h.2⟩ else 0)
      = ∑ b : Fin n, nb j b * f a b := by
    intro a
    rw [nb_sum (fun b => f a b) j, Fin.sum_univ_three]
    have hj := j.2
    have s0 : (if h : 1 ≤ j.1 + (0 : Fin 3).1 ∧ j.1 + (0 : Fin 3).1 - 1 < n then f a ⟨j.1 + (0 : Fin 3).1 - 1, h.2⟩ else 0)
        = if 0 < j.1 then f a ⟨j.1 - 1, by omega⟩ else 0 := by
      by_cases h : 0 < j.1
      · rw [dif_pos ⟨by show 1 ≤ j.1 + 0; omega, by show j.1 + 0 - 1 < n; omega⟩, if_pos h]; rfl
      · rw [dif_neg (fun hh => h (by have : 1 ≤ j.1 + 0 := hh.1; omega)), if_neg h]
    have s1 : (if h : 1 ≤ j.1 + (1 : Fin 3).1 ∧ j.1 + (1 : Fin 3).1 - 1 < n then f a ⟨j.1 + (1 : Fin 3).1 - 1, h.2⟩ else 0) = f a j := by
      rw [dif_pos ⟨by show 1 ≤ j.1 + 1; omega, by show j.1 + 1 - 1 < n; omega⟩]; rfl
    have s2 : (if h : 1 ≤ j.1 + (2 : Fin 3).1 ∧ j.1 + (2 : Fin 3).1 - 1 < n then f a ⟨j.1 + (2 : Fin 3).1 - 1, h.2⟩ else 0)
        = if h : j.1 + 1 < n then f a ⟨j.1 + 1, h⟩ else 0 := by
      by_cases h : j.1 + 1 < n
      · rw [dif_pos ⟨by show 1 ≤ j.1 + 2; omega, by show j.1 + 2 - 1 < n; omega⟩, dif_pos h]; rfl
      · rw [dif_neg (fun hh => h (by have : j.1 + 2 - 1 < n := hh.2; omega)), dif_neg h]
    rw [s0, s1, s2]; ring
  have hcol : ∀ g : Fin n → ℝ, ∑ a : Fin 3, (if h : 1 ≤ i.1 + a.1 ∧ i.1 + a.1 - 1 < n then g ⟨i.1 + a.1 - 1, h.2⟩ else 0)
      = ∑ a : Fin n, nb i a * g a := by
    intro g
    rw [nb_sum g i, Fin.sum_univ_three]
    have hi := i.2
    have s0 : (if h : 1 ≤ i.1 + (0 : Fin 3).1 ∧ i.1 + (0 : Fin 3).1 - 1 < n then g ⟨i.1 + (0 : Fin 3).1 - 1, h.2⟩ else 0)
        = if 0 < i.1 then g ⟨i.1 - 1, by omega⟩ else 0 := by
      by_cases h : 0 < i.1
      · rw [dif_pos ⟨by show 1 ≤ i.1 + 0; omega, by show i.1 + 0 - 1 < n; omega⟩, if_pos h]; rfl
      · rw [dif_neg (fun hh => h (by have : 1 ≤ i.1 + 0 := hh.1; omega)), if_neg h]
    have s1 : (if h : 1 ≤ i.1 + (1 : Fin 3).1 ∧ i.1 + (1 : Fin 3).1 - 1 < n then g ⟨i.1 + (1 : Fin 3).1 - 1, h.2⟩ else 0) = g i := by
      rw [dif_pos ⟨by show 1 ≤ i.1 + 1; omega, by show i.1 + 1 - 1 < n; omega⟩]; rfl
    have s2 : (if h : 1 ≤ i.1 + (2 : Fin 3).1 ∧ i.1 + (2 : Fin 3).1 - 1 < n then g ⟨i.1 + (2 : Fin 3).1 - 1, h.2⟩ else 0)
        = if h : i.1 + 1 < n then g ⟨i.1 + 1, h⟩ else 0 := by
      by_cases h : i.1 + 1 < n
      · rw [dif_pos ⟨by show 1 ≤ i.1 + 2; omega, by show i.1 + 2 - 1 < n; omega⟩, dif_pos h]; rfl
      · rw [dif_neg (fun hh => h (by have : i.1 + 2 - 1 < n := hh.2; omega)), dif_neg h]
    rw [s0, s1, s2]; ring
  rw [box_sep, ← hcol]
  refine Finset.sum_congr rfl fun a _ => ?_
  by_cases h : 1 ≤ i.1 + a.1 ∧ i.1 + a.1 - 1 < n
  · rw [dif_pos h, ← hrow]
    refine Finset.sum_congr rfl fun b _ => ?_
    unfold place
    by_cases h' : 1 ≤ j.1 + b.1 ∧ j.1 + b.1 - 1 < n
    · rw [dif_pos ⟨h, h'⟩, dif_pos h']
    · rw [dif_neg fun hh => h' hh.2, dif_neg h']
  · rw [dif_neg h]
    refine Finset.sum_eq_zero fun b _ => ?_
    unfold place
    rw [dif_neg fun hh => h hh.1]

/-- The window sum of a map whose values are reals. -/
theorem sums {B C n : ℕ} {u : Shape} (x : FVec Ideal ⟨4, ![B, C, n, n]⟩ .f32) (init : FVec Ideal u .f32)
    (h : (⟨4, ![B, C, n, n]⟩ : Shape).ReduceWindows ![1, 1, 3, 3] ![1, 1, 1, 1] ![0, 0, 1, 1] ![0, 0, 1, 1] ⟨4, ![B, C, n, n]⟩)
    (hu : 0 < u.numel) (h0 : ∀ k, init k = (0 : EReal)) (b : Fin B) (c : Fin C) (f : Fin n → Fin n → ℝ)
    (hx : ∀ k l, x (ix4 b c k l) = (f k l : EReal)) (i j : Fin n) :
    Host.reduceWindowAdd ![1, 1, 3, 3] ![1, 1, 1, 1] ![0, 0, 1, 1] ![0, 0, 1, 1] x init h hu (ix4 b c i j) = ((box f i j : ℝ) : EReal) := by
  unfold Host.reduceWindowAdd
  rw [h0]
  show Ideal.hostReduceWindowAdd _ _ _ _ h x 0 _ = _
  unfold Ideal.hostReduceWindowAdd Host.reduceWindow
  dsimp only
  rw [foldl_add, zero_add, ← List.ofFn_eq_map, List.sum_ofFn]
  have key : ∀ (w : (⟨4, ![1, 1, 3, 3]⟩ : Shape).Idx)
      (D : Decidable (∀ a : Fin 4, ![0, 0, 1, 1] a ≤ (ix4 b c i j (a.cast h.1.symm)).val * ![1, 1, 1, 1] a + (w a).val
          ∧ (ix4 b c i j (a.cast h.1.symm)).val * ![1, 1, 1, 1] a + (w a).val - ![0, 0, 1, 1] a < ![B, C, n, n] a)),
      @dite EReal (∀ a : Fin 4, ![0, 0, 1, 1] a ≤ (ix4 b c i j (a.cast h.1.symm)).val * ![1, 1, 1, 1] a + (w a).val
          ∧ (ix4 b c i j (a.cast h.1.symm)).val * ![1, 1, 1, 1] a + (w a).val - ![0, 0, 1, 1] a < ![B, C, n, n] a) D
        (fun hin => x fun a => ⟨(ix4 b c i j (a.cast h.1.symm)).val * ![1, 1, 1, 1] a + (w a).val - ![0, 0, 1, 1] a, (hin a).2⟩) (fun _ => 0)
      = ((place f (i.1 + (w 2).1) (j.1 + (w 3).1) : ℝ) : EReal) := by
    intro w D
    have w0 : (w 0).1 < 1 := (w 0).2
    have w1 : (w 1).1 < 1 := (w 1).2
    have hb := b.2
    have hc := c.2
    by_cases hh : (1 ≤ i.1 + (w 2).1 ∧ i.1 + (w 2).1 - 1 < n) ∧ (1 ≤ j.1 + (w 3).1 ∧ j.1 + (w 3).1 - 1 < n)
    · have hin : ∀ a : Fin 4, ![0, 0, 1, 1] a ≤ (ix4 b c i j (a.cast h.1.symm)).val * ![1, 1, 1, 1] a + (w a).val
          ∧ (ix4 b c i j (a.cast h.1.symm)).val * ![1, 1, 1, 1] a + (w a).val - ![0, 0, 1, 1] a < ![B, C, n, n] a := by
        intro a
        match a with
        | ⟨0, _⟩ => show 0 ≤ b.1 * 1 + (w 0).1 ∧ b.1 * 1 + (w 0).1 - 0 < B; omega
        | ⟨1, _⟩ => show 0 ≤ c.1 * 1 + (w 1).1 ∧ c.1 * 1 + (w 1).1 - 0 < C; omega
        | ⟨2, _⟩ => show 1 ≤ i.1 * 1 + (w 2).1 ∧ i.1 * 1 + (w 2).1 - 1 < n; omega
        | ⟨3, _⟩ => show 1 ≤ j.1 * 1 + (w 3).1 ∧ j.1 * 1 + (w 3).1 - 1 < n; omega
      rw [dif_pos hin, place, dif_pos hh, ← hx]
      refine congrArg x (funext fun a => Fin.ext ?_)
      match a with
      | ⟨0, _⟩ => show b.1 * 1 + (w 0).1 - 0 = b.1; omega
      | ⟨1, _⟩ => show c.1 * 1 + (w 1).1 - 0 = c.1; omega
      | ⟨2, _⟩ => show i.1 * 1 + (w 2).1 - 1 = i.1 + (w 2).1 - 1; omega
      | ⟨3, _⟩ => show j.1 * 1 + (w 3).1 - 1 = j.1 + (w 3).1 - 1; omega
    · rw [place, dif_neg hh, EReal.coe_zero, dif_neg]
      intro hin
      have h2 : 1 ≤ i.1 * 1 + (w 2).1 ∧ i.1 * 1 + (w 2).1 - 1 < n := hin 2
      have h3 : 1 ≤ j.1 * 1 + (w 3).1 ∧ j.1 * 1 + (w 3).1 - 1 < n := hin 3
      exact hh ⟨by omega, by omega⟩
  refine (Finset.sum_congr rfl fun k _ => key ((⟨4, ![1, 1, 3, 3]⟩ : Shape).rowMajor.symm k) _).trans ?_
  rw [Equiv.sum_comp (⟨4, ![1, 1, 3, 3]⟩ : Shape).rowMajor.symm
    (fun w : (⟨4, ![1, 1, 3, 3]⟩ : Shape).Idx => ((place f (i.1 + (w 2).1) (j.1 + (w 3).1) : ℝ) : EReal)), sum_idx4]
  simp only [Fin.sum_univ_one, Reals.sum]
  exact congrArg _ (places f i j)

end Cert.Window

end
-- ==== Proof.RefDesc.lean ====
/- The reference's descriptor at a place, as a real. -/
module

public import proofs.«01_k».proof.Proof.RefWts
public import proofs.«01_k».proof.Proof.Window

@[expose] public section

set_option maxRecDepth 16384

noncomputable section

namespace Cert.ReferenceIdeal.Desc

open Idealize.ShloMosaic.TcCoe Cert.ReferenceIdeal Cert.ReferenceIdeal.Gen Cert.ReferenceIdeal.Value Idealize.ShloMosaic Idealize.ShloMosaic.StableHlo Idealize.SL.Sem Cert.Model

/-- The arguments hold reals. -/
structure Args (V0 : Valuation τ sig (Elt Ideal)) (p1 : Fin 8 → Fin 256 → Fin 56 → Fin 56 → ℝ) (p2 : Fin 8 → Fin 512 → Fin 28 → Fin 28 → ℝ)
    (p3 : Fin 8 → Fin 1024 → Fin 14 → Fin 14 → ℝ) (W : Fin 224 → Fin 1794 → ℝ) (b : Fin 224 → ℝ) (C : Fin 3136 → Fin 224 → ℝ) : Prop where
  a0 : ∀ n c h w, (V0 main_arg0 : FVec Ideal S8x256x56x56 .f32) (ix4 n c h w) = ((p1 n c h w : ℝ) : EReal)
  a1 : ∀ n c h w, (V0 main_arg1 : FVec Ideal S8x512x28x28 .f32) (ix4 n c h w) = ((p2 n c h w : ℝ) : EReal)
  a2 : ∀ n c h w, (V0 main_arg2 : FVec Ideal S8x1024x14x14 .f32) (ix4 n c h w) = ((p3 n c h w : ℝ) : EReal)
  a3 : ∀ o c, (V0 main_arg3 : FVec Ideal S224x1794 .f32) (ix2 o c) = ((W o c : ℝ) : EReal)
  a4 : ∀ o, (V0 main_arg4 : FVec Ideal S224 .f32) (ix1 o) = ((b o : ℝ) : EReal)
  a5 : ∀ o k, (V0 main_arg5 : FVec Ideal S224x3136 .f32) (ix2 o k) = ((C k o : ℝ) : EReal)

variable {V0 : Valuation τ sig (Elt Ideal)} {p1 : Fin 8 → Fin 256 → Fin 56 → Fin 56 → ℝ} {p2 : Fin 8 → Fin 512 → Fin 28 → Fin 28 → ℝ}
  {p3 : Fin 8 → Fin 1024 → Fin 14 → Fin 14 → ℝ} {W : Fin 224 → Fin 1794 → ℝ} {b : Fin 224 → ℝ} {C : Fin 3136 → Fin 224 → ℝ}

/-- The value that a window sum starts from. -/
theorem zeros (k : S_.Idx) : (broadcastInDim S_ ![] bcast_S_S_ (constant S_ .f32 0x00000000#32) : FVec Ideal S_ .f32) k = (0 : EReal) := by
  rw [show k = ix0 from funext fun a => a.elim0]
  pointwise

variable (A : Args V0 p1 p2 p3 W b C)
include A

/-- A channel of the first map, averaged. -/
theorem at1 (n : Fin 8) (c : Fin 256) (h w : Fin 56) :
    (res_main_v211 V0 : FVec Ideal S8x1792x56x56 .f32) (ix4 n ⟨c.1, by omega⟩ h w) = ((box (p1 n c) h w / 9 : ℝ) : EReal) := by
  have win := fun k l : Fin 56 => Window.sums (B := 8) (C := 256) (n := 56) (V0 main_arg0 : FVec Ideal S8x256x56x56 .f32) _
    reduceWindows_S8x256x56x56_S8x256x56x56_w1s1p0_0_w1s1p0_0_w3s1p1_1_w3s1p1_1 h_S_ zeros n c (p1 n c) (fun k l => A.a0 n c k l) k l
  have win9 := fun k l => (congrArg₂ Ideal.div (win k l) Reals.nine).trans (Reals.div _ (by norm_num))
  unfold res_main_v211; clean_types; pointwise
  rw [dif_pos (by omega)]
  exact win9 h w

/-- A channel of the second map, averaged and enlarged. -/
theorem at2 (n : Fin 8) (c : Fin 512) (h w : Fin 56) :
    (res_main_v211 V0 : FVec Ideal S8x1792x56x56 .f32) (ix4 n ⟨256 + c.1, by omega⟩ h w) = ((enl 2 (p2 n c) h w : ℝ) : EReal) := by
  have win := fun k l : Fin 28 => Window.sums (B := 8) (C := 512) (n := 28) (V0 main_arg1 : FVec Ideal S8x512x28x28 .f32) _
    reduceWindows_S8x512x28x28_S8x512x28x28_w1s1p0_0_w1s1p0_0_w3s1p1_1_w3s1p1_1 h_S_ zeros n c (p2 n c) (fun k l => A.a1 n c k l) k l
  have win9 := fun k l => (congrArg₂ Ideal.div (win k l) Reals.nine).trans (Reals.div _ (by norm_num))
  unfold res_main_v211; clean_types; pointwise
  rw [dif_pos (by omega)]
  have e : ∀ l : Fin 28, ∑ k : Fin 28, ((wgt 28 2 h k : ℝ) : EReal) * ((box (p2 n c) k l / 9 : ℝ) : EReal)
      = ((∑ k : Fin 28, box (p2 n c) k l / 9 * wgt 28 2 h k : ℝ) : EReal) := by
    intro l
    simp only [Reals.mul, Reals.sum, mul_comm]
  refine (Finset.sum_congr rfl fun l _ => congrArg₂ (· * ·) ((Finset.sum_congr rfl fun k _ =>
    congrArg₂ (· * ·) (Wts.used2 h k (Wts.pos23 V0 h) (Wts.tot39 V0 h) (Wts.tri37 V0 k h)) (win9 k l)).trans (e l)) (Wts.used2 w l (Wts.pos71 V0 w) (Wts.tot87 V0 w) (Wts.tri85 V0 l w))).trans ?_
  simp only [Reals.mul, Reals.sum]
  rfl

/-- A channel of the third map, averaged and enlarged. -/
theorem at3 (n : Fin 8) (c : Fin 1024) (h w : Fin 56) :
    (res_main_v211 V0 : FVec Ideal S8x1792x56x56 .f32) (ix4 n ⟨768 + c.1, by omega⟩ h w) = ((enl 4 (p3 n c) h w : ℝ) : EReal) := by
  have win := fun k l : Fin 14 => Window.sums (B := 8) (C := 1024) (n := 14) (V0 main_arg2 : FVec Ideal S8x1024x14x14 .f32) _
    reduceWindows_S8x1024x14x14_S8x1024x14x14_w1s1p0_0_w1s1p0_0_w3s1p1_1_w3s1p1_1 h_S_ zeros n c (p3 n c) (fun k l => A.a2 n c k l) k l
  have win9 := fun k l => (congrArg₂ Ideal.div (win k l) Reals.nine).trans (Reals.div _ (by norm_num))
  unfold res_main_v211; clean_types; pointwise
  have e : ∀ l : Fin 14, ∑ k : Fin 14, ((wgt 14 4 h k : ℝ) : EReal) * ((box (p3 n c) k l / 9 : ℝ) : EReal)
      = ((∑ k : Fin 14, box (p3 n c) k l / 9 * wgt 14 4 h k : ℝ) : EReal) := by
    intro l
    simp only [Reals.mul, Reals.sum, mul_comm]
  refine (Finset.sum_congr rfl fun l _ => congrArg₂ (· * ·) ((Finset.sum_congr rfl fun k _ =>
    congrArg₂ (· * ·) (Wts.used4 h k (Wts.pos127 V0 h) (Wts.tot143 V0 h) (Wts.tri141 V0 k h)) (win9 k l)).trans (e l)) (Wts.used4 w l (Wts.pos175 V0 w) (Wts.tot191 V0 w) (Wts.tri189 V0 l w))).trans ?_
  simp only [Reals.mul, Reals.sum]
  rfl

end Cert.ReferenceIdeal.Desc

end
-- ==== Proof.RefVal.lean ====
/- The reference's features and its distances, as reals. -/
module

public import proofs.«01_k».proof.Proof.RefDesc

@[expose] public section

set_option maxRecDepth 16384

noncomputable section

namespace Cert.ReferenceIdeal.Desc

open Idealize.ShloMosaic.TcCoe Cert.ReferenceIdeal Cert.ReferenceIdeal.Gen Cert.ReferenceIdeal.Value Idealize.ShloMosaic Idealize.ShloMosaic.StableHlo Idealize.SL.Sem Cert.Model

variable {V0 : Valuation τ sig (Elt Ideal)} {p1 : Fin 8 → Fin 256 → Fin 56 → Fin 56 → ℝ} {p2 : Fin 8 → Fin 512 → Fin 28 → Fin 28 → ℝ}
  {p3 : Fin 8 → Fin 1024 → Fin 14 → Fin 14 → ℝ} {W : Fin 224 → Fin 1794 → ℝ} {b : Fin 224 → ℝ} {C : Fin 3136 → Fin 224 → ℝ}

/-- A coordinate from the two ends, off the last place. -/
theorem inner (x : ℕ) (hx : x < 55) :
    Ideal.ofBits .f32 0xBF800000#32 * (1 - Ideal.div (FloatOps.sitofp .f32 (BitVec.ofNat 32 x) : Ideal .f32) (Ideal.ofBits .f32 0x425C0000#32))
      + 1 * Ideal.div (FloatOps.sitofp .f32 (BitVec.ofNat 32 x) : Ideal .f32) (Ideal.ofBits .f32 0x425C0000#32) = ((coord x : ℝ) : EReal) := by
  rw [Reals.nat _ (by omega), Reals.fiftyfive, Reals.negone, Reals.one, Reals.div _ (by norm_num)]
  simp only [Reals.add, Reals.mul, Reals.sub]
  congr 1
  unfold coord
  ring

theorem outer : (1 : EReal) = ((coord 55 : ℝ) : EReal) := by
  rw [Reals.one]; congr 1; unfold coord; norm_num

/-- A coordinate as the reference makes it: from two ends and steps of one part in 55, with the end itself last. -/
theorem line (x : Fin 56) (c0 c1 : EReal) (v : ∀ k : ℕ, k < 55 → EReal) (h0 : c0 = Ideal.ofBits .f32 0xBF800000#32) (h1 : c1 = 1)
    (hv : ∀ k hk, v k hk = Ideal.div (FloatOps.sitofp .f32 (BitVec.ofNat 32 k) : Ideal .f32) (Ideal.ofBits .f32 0x425C0000#32)) :
    (if h : x.1 < 55 then c0 * (1 - v x.1 h) + c1 * v x.1 h else c1) = ((coord x : ℝ) : EReal) := by
  subst h0 h1
  by_cases h : x.1 < 55
  · rw [dif_pos h, hv]
    exact inner x.1 h
  · rw [dif_neg h, show x.1 = 55 by omega]
    exact outer

section ends

variable (V0)

theorem first12 : (res_main_call12_v0 V0 : FVec Ideal S_ .f32) ix0 = Ideal.ofBits .f32 0xBF800000#32 := rfl
theorem first13 : (res_main_call13_v0 V0 : FVec Ideal S_ .f32) ix0 = Ideal.ofBits .f32 0xBF800000#32 := rfl
theorem last12 : (res_main_call12_v1 V0 : FVec Ideal S_ .f32) ix0 = (1 : EReal) := by
  unfold res_main_call12_v1; clean_types; simp only [id]; pointwise
theorem last13 : (res_main_call13_v1 V0 : FVec Ideal S_ .f32) ix0 = (1 : EReal) := by
  unfold res_main_call13_v1; clean_types; simp only [id]; pointwise
theorem step12 (k : Fin 55) : (res_main_call12_v6 V0 : FVec Ideal S55 .f32) (ix1 k)
    = Ideal.div (FloatOps.sitofp .f32 (BitVec.ofNat 32 k.1) : Ideal .f32) (Ideal.ofBits .f32 0x425C0000#32) := by
  unfold res_main_call12_v6; clean_types; pointwise
theorem step13 (k : Fin 55) : (res_main_call13_v6 V0 : FVec Ideal S55 .f32) (ix1 k)
    = Ideal.div (FloatOps.sitofp .f32 (BitVec.ofNat 32 k.1) : Ideal .f32) (Ideal.ofBits .f32 0x425C0000#32) := by
  unfold res_main_call13_v6; clean_types; pointwise

end ends

/-- One channel of what the descriptor's weights are applied to. -/
def sample (p1 : Fin 256 → Fin 56 → Fin 56 → ℝ) (p2 : Fin 512 → Fin 28 → Fin 28 → ℝ) (p3 : Fin 1024 → Fin 14 → Fin 14 → ℝ) (h w : ℕ) (x : Fin 1794) : ℝ :=
  if hx : x.1 < 256 then box (p1 ⟨x.1, hx⟩) h w / 9 else if hx : x.1 < 768 then enl 2 (p2 ⟨x.1 - 256, by omega⟩) h w
    else if hx : x.1 < 1792 then enl 4 (p3 ⟨x.1 - 768, by omega⟩) h w else if x.1 = 1792 then coord w else coord h

theorem desc_eq (W : Fin 1794 → ℝ) (b : ℝ) (p1 : Fin 256 → Fin 56 → Fin 56 → ℝ) (p2 : Fin 512 → Fin 28 → Fin 28 → ℝ) (p3 : Fin 1024 → Fin 14 → Fin 14 → ℝ) (h w : ℕ) :
    ∑ x, W x * sample p1 p2 p3 h w x + b = desc W b p1 p2 p3 h w := by
  rw [sum_split 1793 1 (by norm_num) fun x : Fin 1794 => W x * sample p1 p2 p3 h w x,
    sum_split 1792 1 (by norm_num) fun x : Fin 1793 => W ⟨x.1, by omega⟩ * sample p1 p2 p3 h w ⟨x.1, by omega⟩,
    sum_split 768 1024 (by norm_num) fun x : Fin 1792 => W ⟨x.1, by omega⟩ * sample p1 p2 p3 h w ⟨x.1, by omega⟩,
    sum_split 256 512 (by norm_num) fun x : Fin 768 => W ⟨x.1, by omega⟩ * sample p1 p2 p3 h w ⟨x.1, by omega⟩]
  have e1 : ∀ c : Fin 256, sample p1 p2 p3 h w ⟨c.1, by omega⟩ = box (p1 c) h w / 9 := fun c => by
    unfold sample; rw [dif_pos c.2]
  have e2 : ∀ c : Fin 512, sample p1 p2 p3 h w ⟨256 + c.1, by omega⟩ = enl 2 (p2 c) h w := fun c => by
    unfold sample; dsimp only; rw [dif_neg (by omega), dif_pos (by omega)]; congr 2; exact Fin.ext (by show 256 + c.1 - 256 = c.1; omega)
  have e3 : ∀ c : Fin 1024, sample p1 p2 p3 h w ⟨768 + c.1, by omega⟩ = enl 4 (p3 c) h w := fun c => by
    unfold sample; dsimp only; rw [dif_neg (by omega), dif_neg (by omega), dif_pos (by omega)]; congr 2; exact Fin.ext (by show 768 + c.1 - 768 = c.1; omega)
  have e4 : sample p1 p2 p3 h w ⟨1792, by omega⟩ = coord w := rfl
  have e5 : sample p1 p2 p3 h w ⟨1793, by omega⟩ = coord h := rfl
  simp only [Fin.sum_univ_one, e1, e2, e3]
  unfold desc
  exact congrArg (· + b) (congrArg₂ (· + ·) (congrArg₂ (· + ·) rfl (congrArg (W 1792 * ·) e4)) (congrArg (W 1793 * ·) e5))

variable (A : Args V0 p1 p2 p3 W b C)
include A

/-- A channel of what the descriptor's weights are applied to, from the three parts of the reference's stack. -/
theorem each (n : Fin 8) (h w : Fin 56) (x : Fin 1794) (R : ∀ c : ℕ, c < 1792 → EReal) (X Y : EReal)
    (hR : ∀ c hc, R c hc = (res_main_v211 V0 : FVec Ideal S8x1792x56x56 .f32) (ix4 n ⟨c, hc⟩ h w))
    (hX : X = ((coord w : ℝ) : EReal)) (hY : Y = ((coord h : ℝ) : EReal)) :
    (if hx : x.1 < 1792 then R x.1 hx else if _h : x.1 - 1792 < 1 then X else Y) = ((sample (p1 n) (p2 n) (p3 n) h w x : ℝ) : EReal) := by
  have h1 := at1 A n
  have h2 := at2 A n
  have h3 := at3 A n
  unfold sample
  by_cases c1 : x.1 < 256
  · refine (dif_pos (show x.1 < 1792 by omega)).trans ?_
    rw [dif_pos c1, hR]
    exact h1 ⟨x.1, c1⟩ h w
  rw [dif_neg c1]
  by_cases c2 : x.1 < 768
  · refine (dif_pos (show x.1 < 1792 by omega)).trans ?_
    rw [dif_pos c2, hR, ← h2]
    congr 2
    exact Fin.ext (by show x.1 = 256 + (x.1 - 256); omega)
  rw [dif_neg c2]
  by_cases c3 : x.1 < 1792
  · refine (dif_pos c3).trans ?_
    rw [dif_pos c3, hR, ← h3]
    congr 2
    exact Fin.ext (by show x.1 = 768 + (x.1 - 768); omega)
  refine (dif_neg c3).trans ?_
  rw [dif_neg c3]
  by_cases c4 : x.1 = 1792
  · rw [dif_pos (by omega), if_pos c4, hX]
  · rw [dif_neg (by omega), if_neg c4, hY]

/-- The features. -/
theorem feature (n : Fin 8) (q : Fin 3136) (o : Fin 224) :
    (res_main_v225 V0 : FVec Ideal S8x3136x224 .f32) (ix3 n q o)
      = ((desc (W o) (b o) (p1 n) (p2 n) (p3 n) (q.1 / 56) (q.1 % 56) : ℝ) : EReal) := by
  refine Eq.trans ?_ (congrArg (fun r : ℝ => (r : EReal)) (desc_eq (W o) (b o) (p1 n) (p2 n) (p3 n) (q.1 / 56) (q.1 % 56)))
  refine Eq.trans ?_ (Reals.add _ _)
  refine Eq.trans ?_ (congrArg (· + ((b o : ℝ) : EReal)) (Reals.sum _))
  unfold res_main_v225; clean_types; pointwise
  refine congrArg₂ (fun u v : EReal => u + v) (Finset.sum_congr rfl fun x _ => ?_) (A.a4 o)
  refine Eq.trans ?_ (Reals.mul _ _)
  refine congrArg₂ (fun u v : EReal => u * v) (A.a3 o x) ?_
  exact each A n ⟨q.1 / 56, by omega⟩ ⟨q.1 % 56, by omega⟩ x (fun c hc => (res_main_v211 V0 : FVec Ideal S8x1792x56x56 .f32) (ix4 n ⟨c, hc⟩ _ _)) _ _
    (fun _ _ => rfl)
    (line ⟨q.1 % 56, by omega⟩ _ _ (fun k hk => (res_main_call12_v6 V0 : FVec Ideal S55 .f32) (ix1 ⟨k, hk⟩)) (first12 V0) (last12 V0) fun k hk => step12 V0 ⟨k, hk⟩)
    (line ⟨q.1 / 56, by omega⟩ _ _ (fun k hk => (res_main_call13_v6 V0 : FVec Ideal S55 .f32) (ix1 ⟨k, hk⟩)) (first13 V0) (last13 V0) fun k hk => step13 V0 ⟨k, hk⟩)

/-- The negated distances. -/
theorem distance (n : Fin 8) (q k : Fin 3136) :
    (res_main_v242 V0 : FVec Ideal S8x3136x3136 .f32) (ix3 n q k)
      = -(Ideal.sqrt (max (Model.dist (fun o => desc (W o) (b o) (p1 n) (p2 n) (p3 n) (q.1 / 56) (q.1 % 56)) (C k) : ℝ) (Reals.eps : EReal))) := by
  have h := feature A n q
  have h5 := A.a5
  unfold res_main_v242; clean_types; pointwise
  simp only [h, h5, Reals.two, Reals.mul, Reals.sum, Reals.add, Reals.sub]
  rw [max_comm]
  exact congrArg (fun e => -Ideal.sqrt (max _ e)) Reals.ofBits_eps

end Cert.ReferenceIdeal.Desc

end
-- ==== Proof.TopK.lean ====
/- The greatest elements of a row, by a stable sort. -/
module

public import proofs.«01_k».proof.Proof.Top3
public import Idealize.ShloMosaic.Lib.SortFacts
public import Idealize.ShloMosaic.Lib.Pointwise

@[expose] public section

noncomputable section

namespace Cert.TopK

open Idealize.ShloMosaic

variable {α : Type} {B Q N : ℕ}

/-- Where the sort of a row finds its elements. -/
def from_ (gt : α → α → BitVec 1) (r : Fin N → α) : Fin N → Fin N := sortedFrom fun k k' => gt (r k) (r k') == 1#1

theorem along_last (b : Fin B) (q : Fin Q) (j : Fin N) (H : 2 < (⟨3, ![B, Q, N]⟩ : Shape).rank) (k : Fin ((⟨3, ![B, Q, N]⟩ : Shape).size ⟨2, H⟩)) :
    (ix3 b q j).along ⟨2, H⟩ k = ix3 b q k := by
  funext a
  unfold Shape.Idx.along
  match a with
  | ⟨0, _⟩ => rfl
  | ⟨1, _⟩ => rfl
  | ⟨2, _⟩ => rfl

/-- The greatest three of every row of a stack, element by element. -/
theorem topK_at (gt : α → α → BitVec 1) (x : (⟨3, ![B, Q, N]⟩ : Shape).Idx → α)
    (h : (⟨3, ![B, Q, N]⟩ : Shape).Slices (fun _ => 0) ⟨3, ![B, Q, 3]⟩) (hN : 3 ≤ N) (b : Fin B) (q : Fin Q) (j : Fin 3) :
    (Host.topK ⟨3, ![B, Q, 3]⟩ 2 gt x h).1 (ix3 b q j) = x (ix3 b q (from_ gt (fun k => x (ix3 b q k)) ⟨j.1, by omega⟩)) := by
  have e : ∀ (y : (⟨3, ![B, Q, N]⟩ : Shape).Idx → α), extractStridedSlice ⟨3, ![B, Q, 3]⟩ (fun _ => 0) y h (ix3 b q j) = y (ix3 b q ⟨j.1, by omega⟩) := by
    intro y
    refine congrArg y (funext fun a => Fin.ext ?_)
    match a with
    | ⟨0, _⟩ => show 0 + b.1 = b.1; omega
    | ⟨1, _⟩ => show 0 + q.1 = q.1; omega
    | ⟨2, _⟩ => show 0 + j.1 = j.1; omega
  unfold Host.topK
  dsimp only
  rw [e]
  unfold Host.sort2
  rw [dif_pos (by show 2 < 3; omega)]
  dsimp only
  rw [along_last]
  simp only [along_last]
  rfl

/-- The greatest three of the negated numbers of a row are the smallest three, negated: the sort lists the numbers upward. -/
theorem sorted (d : Fin N → EReal) :
    Function.Bijective (from_ (FloatOps.cmpfTotal (F := Ideal) (φ := .f32) .gt) fun k => -d k) ∧
      ∀ i j, i ≤ j → d (from_ (FloatOps.cmpfTotal (F := Ideal) (φ := .f32) .gt) (fun k => -d k) i)
        ≤ d (from_ (FloatOps.cmpfTotal (F := Ideal) (φ := .f32) .gt) (fun k => -d k) j) := by
  have hR : ∀ a b : Fin N, ((FloatOps.cmpfTotal (F := Ideal) (φ := .f32) .gt (-d a) (-d b) == 1#1) = true) ↔ d a < d b := by
    intro a b
    have h' : -d b < -d a ↔ d a < d b := EReal.neg_lt_neg_iff
    show (BitVec.ofBool (decide (-d b < -d a)) == 1#1) = true ↔ _
    by_cases h : d a < d b <;> simp [h', h]
  have hF : ∀ a b : Fin N, ((FloatOps.cmpfTotal (F := Ideal) (φ := .f32) .gt (-d a) (-d b) == 1#1) = false) ↔ d b ≤ d a := by
    intro a b
    rw [← Bool.not_eq_true, hR, not_lt]
  refine ⟨⟨sortedFrom_injective _, sortedFrom_surjective _⟩, fun i j hij => ?_⟩
  rcases eq_or_lt_of_le hij with rfl | hij
  · exact le_rfl
  have key := sortedFrom_noInversion (fun a b : Fin N => FloatOps.cmpfTotal (F := Ideal) (φ := .f32) .gt (-d a) (-d b) == 1#1)
    (fun a b : Fin N => FloatOps.cmpfTotal (F := Ideal) (φ := .f32) .gt (-d a) (-d b) == 1#1)
    (fun a b h => (hF b a).mpr ((hR a b).mp h).le) (fun _ _ h => h)
    (fun a b c h h' => (hF a c).mpr (((hF b c).mp h').trans ((hF a b).mp h))) i j hij
  exact (hF _ _).mp key

end Cert.TopK

end
-- ==== Proof.RefTop.lean ====
/- The reference's result at a place, from the three smallest distances. -/
module

public import proofs.«01_k».proof.Proof.RefVal
public import proofs.«01_k».proof.Proof.TopK

@[expose] public section

set_option maxRecDepth 16384

noncomputable section

namespace Cert.ReferenceIdeal.Top

open Idealize.ShloMosaic.TcCoe Cert.ReferenceIdeal Cert.ReferenceIdeal.Gen Cert.ReferenceIdeal.Value Idealize.ShloMosaic Idealize.ShloMosaic.StableHlo Idealize.SL.Sem Cert.Model

/-- The reference's result, of its arguments. -/
def result (V0 : Valuation τ sig (Elt Ideal)) : FVec Ideal S8x1x3136 .f32 :=
  transpose S8x1x3136 [0, 2, 1] (broadcastInDim S8x3136x1 ![0, 1] bcast_S8x3136_S8x3136x1_0_1 (mulf (shapeCast _ (extractStridedSlice S8x3136x1 ![0, 0, 0] (Host.divf (res_main_v251 V0) (broadcastInDim S8x3136x3 ![0, 1, 2] bcast_S8x3136x1_S8x3136x3_0_1_2 (broadcastInDim S8x3136x1 ![0, 1] bcast_S8x3136_S8x3136x1_0_1 (Host.reduceAdd (res_main_v251 V0) (constant S_ .f32 0x00000000#32) reducesTo_S8x3136x3_S8x3136_d2 h_S_)))) slices_S8x3136x3_S8x3136x1_0_0_0) shapeCasts_S8x3136x1_S8x3136) (shapeCast _ (extractStridedSlice S8x3136x1 ![0, 0, 0] (res_main_v243 V0) slices_S8x3136x3_S8x3136x1_0_0_0) shapeCasts_S8x3136x1_S8x3136))) transposes_S8x3136x1_S8x1x3136_0_2_1

variable (V0 : Valuation τ sig (Elt Ideal))

/-- The three distances that the reference picks. -/
theorem picked (n : Fin 8) (q : Fin 3136) (d : Fin 3136 → EReal) (hd : ∀ k, (res_main_v242 V0 : FVec Ideal S8x3136x3136 .f32) (ix3 n q k) = -d k) :
    ∃ σ : Fin 3136 → Fin 3136, Function.Bijective σ ∧ (∀ i j, i ≤ j → d (σ i) ≤ d (σ j)) ∧
      ∀ j : Fin 3, (res_main_v243 V0 : FVec Ideal S8x3136x3 .f32) (ix3 n q j) = d (σ ⟨j.1, by omega⟩) := by
  refine ⟨_, (TopK.sorted d).1, (TopK.sorted d).2, fun j => ?_⟩
  have hd' : (fun k => (res_main_v242 V0 : FVec Ideal S8x3136x3136 .f32) (ix3 n q k)) = fun k => -d k := funext hd
  have e := TopK.topK_at (FloatOps.cmpfTotal (F := Ideal) (φ := .f32) .gt) (res_main_v242 V0 : FVec Ideal S8x3136x3136 .f32)
    sliceFits_S8x3136x3136_S8x3136x3 (by norm_num) n q j
  unfold res_main_v243
  refine (congrArg (fun r : EReal => -r) e).trans ?_
  rw [hd', hd, neg_neg]

/-- The negations of the three. -/
theorem negated (n : Fin 8) (q : Fin 3136) (j : Fin 3) (x : ℝ) (hx : (res_main_v243 V0 : FVec Ideal S8x3136x3 .f32) (ix3 n q j) = (x : EReal)) :
    (res_main_v244 V0 : FVec Ideal S8x3136x3 .f32) (ix3 n q j) = ((-x : ℝ) : EReal) := by
  unfold res_main_v244; clean_types; pointwise
  rw [hx, Reals.neg]

/-- The exponentials. -/
theorem exps (n : Fin 8) (q : Fin 3136) (j : Fin 3) (d1 d2 d3 : ℝ) (h12 : d1 ≤ d2) (h13 : d1 ≤ d3)
    (h : ∀ j : Fin 3, (res_main_v243 V0 : FVec Ideal S8x3136x3 .f32) (ix3 n q j) = ((![d1, d2, d3] j : ℝ) : EReal)) :
    (res_main_v251 V0 : FVec Ideal S8x3136x3 .f32) (ix3 n q j) = ((Real.exp (d1 - ![d1, d2, d3] j) : ℝ) : EReal) := by
  have hn := fun j => negated V0 n q j _ (h j)
  have hle : ∀ j : Fin 3, d1 ≤ ![d1, d2, d3] j := by
    intro j
    match j with
    | 0 => exact le_rfl
    | 1 => exact h12
    | 2 => exact h13
  have hm : Finset.fold max (⊥ : EReal) (fun x : Fin 3 => ((-![d1, d2, d3] x : ℝ) : EReal)) Finset.univ = ((-d1 : ℝ) : EReal) := by
    refine le_antisymm ((Finset.fold_max_le _).mpr ⟨bot_le, fun x _ => ?_⟩) ((Finset.le_fold_max _).mpr (Or.inr ⟨0, Finset.mem_univ _, le_rfl⟩))
    exact EReal.coe_le_coe_iff.mpr (neg_le_neg (hle x))
  unfold res_main_v251; clean_types; pointwise
  simp only [hn, Reals.neginf, bot_le, max_eq_right]
  rw [hm, Reals.sub, Ideal.exp_coe]
  congr 2
  ring

/-- The result: the softmax's first weight times the smallest distance. -/
theorem result_at (n : Fin 8) (q : Fin 3136) (d1 d2 d3 : ℝ) (h12 : d1 ≤ d2) (h13 : d1 ≤ d3)
    (h : ∀ j : Fin 3, (res_main_v243 V0 : FVec Ideal S8x3136x3 .f32) (ix3 n q j) = ((![d1, d2, d3] j : ℝ) : EReal)) :
    result V0 (ix3 n 0 q) = ((d1 / (1 + Real.exp (d1 - d2) + Real.exp (d1 - d3)) : ℝ) : EReal) := by
  have he := fun j => exps V0 n q j d1 d2 d3 h12 h13 h
  have hs : Real.exp (d1 - d1) = 1 := by rw [sub_self, Real.exp_zero]
  have hp : Real.exp (d1 - d1) + Real.exp (d1 - d2) + Real.exp (d1 - d3) ≠ 0 := by positivity
  unfold result; clean_types; pointwise
  simp only [he, h, Reals.sum, Fin.sum_univ_three]
  refine (congrArg (fun z : EReal => z * ((d1 : ℝ) : EReal)) (Reals.div (Real.exp (d1 - d1)) hp)).trans ?_
  rw [Reals.mul, hs]
  congr 1
  ring

end Cert.ReferenceIdeal.Top

end
-- ==== Proof.Value.lean ====
/- The two results, number by number. -/
module

public import proofs.«01_k».proof.Defs
public import proofs.«01_k».proof.Proof.Block
public import proofs.«01_k».proof.Proof.RefTop
public import Idealize.ShloMosaic.Lib.Pipeline.ValueKit

@[expose] public section

set_option maxRecDepth 16384

noncomputable section

namespace Cert.ReferenceIdeal.Top

open Cert.ReferenceIdeal Cert.ReferenceIdeal.Gen Cert.ReferenceIdeal.Value Idealize.ShloMosaic Idealize.ShloMosaic.StableHlo Idealize.SL.Sem Cert.Model
open Cert.KernelIdeal.Column (away)

variable {V0 : Valuation τ sig (Elt Ideal)} {p1 : Fin 8 → Fin 256 → Fin 56 → Fin 56 → ℝ} {p2 : Fin 8 → Fin 512 → Fin 28 → Fin 28 → ℝ}
  {p3 : Fin 8 → Fin 1024 → Fin 14 → Fin 14 → ℝ} {W : Fin 224 → Fin 1794 → ℝ} {b : Fin 224 → ℝ} {C : Fin 3136 → Fin 224 → ℝ}

/-- The reference's result at a pixel, for some order that sorts the distances of its descriptor to the centres. -/
theorem at_pixel (A : Cert.ReferenceIdeal.Desc.Args V0 p1 p2 p3 W b C) (n : Fin 8) (s : Fin 3136) :
    ∃ σ : Fin 3136 → Fin 3136, Function.Bijective σ
      ∧ (∀ i j, i ≤ j → away W b (p1 n) (p2 n) (p3 n) C s (σ i) ≤ away W b (p1 n) (p2 n) (p3 n) C s (σ j))
      ∧ result V0 (ix3 n 0 s) = ((away W b (p1 n) (p2 n) (p3 n) C s (σ 0)
          / (1 + Real.exp (away W b (p1 n) (p2 n) (p3 n) C s (σ 0) - away W b (p1 n) (p2 n) (p3 n) C s (σ 1))
            + Real.exp (away W b (p1 n) (p2 n) (p3 n) C s (σ 0) - away W b (p1 n) (p2 n) (p3 n) C s (σ 2))) : ℝ) : EReal) := by
  have hd : ∀ k, (res_main_v242 V0 : FVec Ideal S8x3136x3136 .f32) (ix3 n s k) = -((away W b (p1 n) (p2 n) (p3 n) C s k : ℝ) : EReal) := fun k => by
    refine (Cert.ReferenceIdeal.Desc.distance A n s k).trans ?_
    rw [Reals.max, Reals.sqrt (le_max_of_le_right Reals.eps_pos.le)]
    rfl
  obtain ⟨σ, hσ, hs, h⟩ := picked V0 n s (fun k => ((away W b (p1 n) (p2 n) (p3 n) C s k : ℝ) : EReal)) hd
  have hs' : ∀ i j, i ≤ j → away W b (p1 n) (p2 n) (p3 n) C s (σ i) ≤ away W b (p1 n) (p2 n) (p3 n) C s (σ j) :=
    fun i j hij => EReal.coe_le_coe_iff.mp (hs i j hij)
  refine ⟨σ, hσ, hs', result_at V0 n s _ _ _ (hs' 0 1 (by decide)) (hs' 0 2 (by decide)) fun j => (h j).trans ?_⟩
  fin_cases j <;> rfl

end Cert.ReferenceIdeal.Top

namespace Cert.KernelIdeal.Block

open Cert.KernelIdeal Cert.KernelIdeal.Gen Cert.KernelIdeal.Facts Cert.KernelIdeal.Desc Cert.KernelIdeal.Host Cert.Model
open Idealize.ShloMosaic Idealize.ShloMosaic.TcCoe Idealize.SL.Sem Idealize.ShloMosaic.StableHlo
open Cert.KernelIdeal.Column (away)

variable (m : (ℓ : Loc nD τ sig) → Buf (Elt Ideal) ℓ) (c : Dev nD)

/-- The stored row, read at a pixel. -/
theorem stored (v : FVec Ideal S1x3136 .f32) (s : Fin 3136) : (k0_pay1 v : FVec Ideal S1x1x3136 .f32) (ix3 0 0 s) = v (ix2 0 s) := by
  pointwise [k0_pay1]

/-- Where the result's block at a grid point lies in the array. -/
theorem place (t : Fin cfg0.N) (s : Fin 3136) : ((View.whole main_v116).slice (win0_8.rect t)).emb (ix3 0 0 s : S1x1x3136.Idx) = (ix3 (img t) 0 s : S8x1x3136.Idx) := by
  blk_ext [idx t]

/-- The kernel's array after the run is any array that holds, at every pixel, the score of the three nearest centres. -/
theorem array {p1 : Fin 8 → Fin 256 → Fin 56 → Fin 56 → ℝ} {p2 : Fin 8 → Fin 512 → Fin 28 → Fin 28 → ℝ}
    {p3 : Fin 8 → Fin 1024 → Fin 14 → Fin 14 → ℝ} {W : Fin 224 → Fin 1794 → ℝ} {b : Fin 224 → ℝ} {C : Fin 3136 → Fin 224 → ℝ}
    (A : Args m c p1 p2 p3 W b C) (G : FVec Ideal S8x1x3136 .f32)
    (hG : ∀ (n : Fin 8) (s : Fin 3136), ∃ σ : Fin 3136 → Fin 3136, Function.Bijective σ
      ∧ (∀ i j, i ≤ j → away W b (p1 n) (p2 n) (p3 n) C s (σ i) ≤ away W b (p1 n) (p2 n) (p3 n) C s (σ j))
      ∧ G (ix3 n 0 s) = ((away W b (p1 n) (p2 n) (p3 n) C s (σ 0)
          / (1 + Real.exp (away W b (p1 n) (p2 n) (p3 n) C s (σ 0) - away W b (p1 n) (p2 n) (p3 n) C s (σ 1))
            + Real.exp (away W b (p1 n) (p2 n) (p3 n) C s (σ 0) - away W b (p1 n) (p2 n) (p3 n) C s (σ 2))) : ℝ) : EReal)) :
    (dats m 0 c).arrAt 8 cfg0.N = G := by
  refine (dats m 0 c).arrAt_eq_of_covers 8 _ (by decide +kernel) fun t hf y => ?_
  blk_simp
  rw [after0_8]
  frame_out
  obtain ⟨s, rfl⟩ : ∃ s : Fin 3136, y = (ix3 0 0 s : S1x1x3136.Idx) := ⟨y 2, by
    refine funext fun a => ?_
    fin_cases a
    · exact Subsingleton.elim (α := Fin 1) _ _
    · exact Subsingleton.elim (α := Fin 1) _ _
    · rfl⟩
  obtain ⟨σ, hσ, hs, e⟩ := hG (img t) s
  exact (stored _ s).trans ((Column.at_pixel (reads m c A t) s σ hσ hs).trans (e.symm.trans (congrArg G (place t s)).symm))

end Cert.KernelIdeal.Block

end
-- ==== Proof.Algebraic.lean ====
/- The value claim: on arrays of real numbers the kernel and the reference end with the same result. -/
module

public import proofs.«01_k».proof.Proof.Finite
public import proofs.«01_k».proof.Proof.Value

@[expose] public section

set_option maxRecDepth 16384

noncomputable section

namespace Cert.Proof

open Idealize.ShloMosaic Idealize.ShloMosaic.TcCoe Idealize.ShloMosaic.StableHlo Idealize.SL.Sem

section

variable (m : (ℓ : Loc Cert.KernelIdeal.nD Cert.KernelIdeal.τ Cert.KernelIdeal.sig) → Buf (Elt Ideal) ℓ) (c : Dev Cert.KernelIdeal.nD)

/-- The first feature map on a device, as real numbers. -/
def map1 : Fin 8 → Fin 256 → Fin 56 → Fin 56 → ℝ := fun n h x y =>
  ((m ((c : Thread Cert.KernelIdeal.nD Cert.KernelIdeal.τ).loc Cert.KernelIdeal.main_arg0) : FVec Ideal Cert.KernelIdeal.S8x256x56x56 .f32) (ix4 n h x y) : EReal).toReal

/-- The second feature map. -/
def map2 : Fin 8 → Fin 512 → Fin 28 → Fin 28 → ℝ := fun n h x y =>
  ((m ((c : Thread Cert.KernelIdeal.nD Cert.KernelIdeal.τ).loc Cert.KernelIdeal.main_arg1) : FVec Ideal Cert.KernelIdeal.S8x512x28x28 .f32) (ix4 n h x y) : EReal).toReal

/-- The third feature map. -/
def map3 : Fin 8 → Fin 1024 → Fin 14 → Fin 14 → ℝ := fun n h x y =>
  ((m ((c : Thread Cert.KernelIdeal.nD Cert.KernelIdeal.τ).loc Cert.KernelIdeal.main_arg2) : FVec Ideal Cert.KernelIdeal.S8x1024x14x14 .f32) (ix4 n h x y) : EReal).toReal

/-- The weights of the linear map. -/
def weights : Fin 224 → Fin 1794 → ℝ := fun o k =>
  ((m ((c : Thread Cert.KernelIdeal.nD Cert.KernelIdeal.τ).loc Cert.KernelIdeal.main_arg3) : FVec Ideal Cert.KernelIdeal.S224x1794 .f32) (ix2 o k) : EReal).toReal

/-- The offset of the linear map. -/
def offset : Fin 224 → ℝ := fun o =>
  ((m ((c : Thread Cert.KernelIdeal.nD Cert.KernelIdeal.τ).loc Cert.KernelIdeal.main_arg4) : FVec Ideal Cert.KernelIdeal.S224 .f32) (ix1 o) : EReal).toReal

/-- The centres. -/
def centers : Fin 3136 → Fin 224 → ℝ := fun k o =>
  ((m ((c : Thread Cert.KernelIdeal.nD Cert.KernelIdeal.τ).loc Cert.KernelIdeal.main_arg5) : FVec Ideal Cert.KernelIdeal.S224x3136 .f32) (ix2 o k) : EReal).toReal

/-- Under the precondition the kernel's arguments are these real numbers. -/
theorem kernel_args [Cert.Pre_finite_arguments.Facts] (h : Cert.Pre_KernelIdeal_finite_arguments m) :
    Cert.KernelIdeal.Block.Args m c (map1 m c) (map2 m c) (map3 m c) (weights m c) (offset m c) (centers m c) where
  a0 n h' x y := Cert.Pre_finite_arguments.real _ _ (h c).1 (ix4 n h' x y)
  a1 n h' x y := Cert.Pre_finite_arguments.real _ _ (h c).2.1 (ix4 n h' x y)
  a2 n h' x y := Cert.Pre_finite_arguments.real _ _ (h c).2.2.1 (ix4 n h' x y)
  a3 o k := Cert.Pre_finite_arguments.real _ _ (h c).2.2.2.1 (ix2 o k)
  a4 o := Cert.Pre_finite_arguments.real _ _ (h c).2.2.2.2.1 (ix1 o)
  a5 o k := Cert.Pre_finite_arguments.real _ _ (h c).2.2.2.2.2 (ix2 o k)

variable {m c} {p1 : Fin 8 → Fin 256 → Fin 56 → Fin 56 → ℝ} {p2 : Fin 8 → Fin 512 → Fin 28 → Fin 28 → ℝ}
  {p3 : Fin 8 → Fin 1024 → Fin 14 → Fin 14 → ℝ} {W : Fin 224 → Fin 1794 → ℝ} {b : Fin 224 → ℝ} {C : Fin 3136 → Fin 224 → ℝ}

/-- A reference that starts from the same arguments has the same real numbers. -/
theorem reference_args (A : Cert.KernelIdeal.Block.Args m c p1 p2 p3 W b C)
    (m' : (ℓ : Loc Cert.ReferenceIdeal.nD Cert.ReferenceIdeal.τ Cert.ReferenceIdeal.sig) → Buf (Elt Ideal) ℓ)
    (h : m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    Cert.ReferenceIdeal.Desc.Args (launchContents m' c) p1 p2 p3 W b C where
  a0 n k x y := (congrFun h.1 (ix4 n k x y)).trans (A.a0 n k x y)
  a1 n k x y := (congrFun h.2.1 (ix4 n k x y)).trans (A.a1 n k x y)
  a2 n k x y := (congrFun h.2.2.1 (ix4 n k x y)).trans (A.a2 n k x y)
  a3 o k := (congrFun h.2.2.2.1 (ix2 o k)).trans (A.a3 o k)
  a4 o := (congrFun h.2.2.2.2.1 (ix1 o)).trans (A.a4 o)
  a5 o k := (congrFun h.2.2.2.2.2 (ix2 o k)).trans (A.a5 o k)

end

/-- From finite arguments both programs end with the reference's result. -/
theorem algebraic (hk : Cert.KernelIdeal.Facts := Cert.KernelIdeal.Gen.facts) (hr : Cert.ReferenceIdeal.Facts := Cert.ReferenceIdeal.Gen.facts)
    (hp : Cert.Pre_finite_arguments.Facts := Cert.Pre_finite_arguments.facts) :
    Cert.algebraic_KernelIdeal_ReferenceIdeal_pre_finite_arguments (hKernelIdeal := hk) (hReferenceIdeal := hr) (hPre_finite_arguments := hp) := by
  intro m g m' g' hpre hagree
  refine ⟨fun c => Cert.ReferenceIdeal.Top.result (launchContents m' c), ?_, Cert.ReferenceIdeal.Value.run (F := Ideal) m' g'⟩
  refine (θ_run Cert.KernelIdeal.defs _ _).mono (fun _ h c => ⟨?_, h.2 c⟩)
    (θ_run_and (Cert.KernelIdeal.Gen.run_main (F := Ideal) m g) (Cert.KernelIdeal.Gen.unchanged (F := Ideal) m g))
  exact (h.1.out_eq c 8).trans (Cert.KernelIdeal.Block.array m c (kernel_args m c hpre) _
    fun n s => Cert.ReferenceIdeal.Top.at_pixel (reference_args (kernel_args m c hpre) m' (hagree c)) n s)

end Cert.Proof

end
-- ==== Proof.lean ====
/- The certificate's claim, put together from the modules beside this file. -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite_arguments.facts,
    frame_p, frame_pi, fun m ρ _ => frame_pi _ m ρ trivial, frame_ri, fun m ρ _ => frame_ri _ m ρ trivial, preserves, algebraic⟩

end Cert.Proof

end
